-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5)
      ∧ r.2.mem ((c.tc : Thread Cert.OProj.nD Cert.OProj.τ).loc Cert.OProj.main_arg6) = m ((c.tc : Thread Cert.OProj.nD Cert.OProj.τ).loc Cert.OProj.main_arg6))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
      ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5)
      ∧ r.2.mem ((c.tc : Thread Cert.OProjRefIdeal.nD Cert.OProjRefIdeal.τ).loc Cert.OProjRefIdeal.main_arg6) = m ((c.tc : Thread Cert.OProjRefIdeal.nD Cert.OProjRefIdeal.τ).loc Cert.OProjRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v2) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)
      ∧ m' ((c.tc : Thread Cert.OProjRefIdeal.nD Cert.OProjRefIdeal.τ).loc Cert.OProjRefIdeal.main_arg6) = m ((c.tc : Thread Cert.OProjIdeal.nD Cert.OProjIdeal.τ).loc Cert.OProjIdeal.main_arg6)) →
    ∃ (v0 : (c : Dev Cert.OProjIdeal.nD) → Buf (Elt Ideal) ((c.tc : Thread Cert.OProjIdeal.nD Cert.OProjIdeal.τ).loc Cert.OProjIdeal.main_v4_0)) (v1 : (c : Dev Cert.OProjIdeal.nD) → Buf (Elt Ideal) ((c.tc : Thread Cert.OProjIdeal.nD Cert.OProjIdeal.τ).loc Cert.OProjIdeal.main_v4_1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v4_0) = v0 c
          ∧ r.2.mem ((c.tc : Thread Cert.OProjIdeal.nD Cert.OProjIdeal.τ).loc Cert.OProjIdeal.main_v4_1) = v1 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
          ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v4_0) = v0 c
          ∧ r.2.mem ((c.tc : Thread Cert.OProjRefIdeal.nD Cert.OProjRefIdeal.τ).loc Cert.OProjRefIdeal.main_v4_1) = v1 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5)
          ∧ r.2.mem ((c.tc : Thread Cert.OProjRefIdeal.nD Cert.OProjRefIdeal.τ).loc Cert.OProjRefIdeal.main_arg6) = m' ((c.tc : Thread Cert.OProjRefIdeal.nD Cert.OProjRefIdeal.τ).loc Cert.OProjRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)) (v3 : (c : Dev Cert.QkvIdeal.nD) → Buf (Elt Ideal) ((c.tc : Thread Cert.QkvIdeal.nD Cert.QkvIdeal.τ).loc Cert.QkvIdeal.main_v2_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_v2_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v5_0) = v0 c
          ∧ r.2.mem ((c.tc : Thread Cert.QkvRefIdeal.nD Cert.QkvRefIdeal.τ).loc Cert.QkvRefIdeal.main_v5_1) = v1 c
          ∧ r.2.mem ((c.tc : Thread Cert.QkvRefIdeal.nD Cert.QkvRefIdeal.τ).loc Cert.QkvRefIdeal.main_v5_2) = v2 c
          ∧ r.2.mem ((c.tc : Thread Cert.QkvRefIdeal.nD Cert.QkvRefIdeal.τ).loc Cert.QkvRefIdeal.main_v5_3) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9))

def Claim : Prop :=
  ∃ (hDown : Cert.Down.Facts) (hDownIdeal : Cert.DownIdeal.Facts) (hDownRefIdeal : Cert.DownRefIdeal.Facts) (hGateUp : Cert.GateUp.Facts) (hGateUpIdeal : Cert.GateUpIdeal.Facts) (hGateUpRefIdeal : Cert.GateUpRefIdeal.Facts) (hOProj : Cert.OProj.Facts) (hOProjIdeal : Cert.OProjIdeal.Facts) (hOProjRefIdeal : Cert.OProjRefIdeal.Facts) (hQkv : Cert.Qkv.Facts) (hQkvIdeal : Cert.QkvIdeal.Facts) (hQkvRefIdeal : Cert.QkvRefIdeal.Facts),
    quiescent_Down (hDown := hDown)
    ∧ quiescent_DownIdeal (hDownIdeal := hDownIdeal)
    ∧ quiescent_DownRefIdeal (hDownRefIdeal := hDownRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_OProj (hOProj := hOProj)
    ∧ quiescent_OProjIdeal (hOProjIdeal := hOProjIdeal)
    ∧ quiescent_OProjRefIdeal (hOProjRefIdeal := hOProjRefIdeal)
    ∧ quiescent_Qkv (hQkv := hQkv)
    ∧ quiescent_QkvIdeal (hQkvIdeal := hQkvIdeal)
    ∧ quiescent_QkvRefIdeal (hQkvRefIdeal := hQkvRefIdeal)
    ∧ preserves_Down_DownIdeal
    ∧ algebraic_DownIdeal_DownRefIdeal (hDownIdeal := hDownIdeal) (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_OProj_OProjIdeal
    ∧ algebraic_OProjIdeal_OProjRefIdeal (hOProjIdeal := hOProjIdeal) (hOProjRefIdeal := hOProjRefIdeal)
    ∧ preserves_Qkv_QkvIdeal
    ∧ algebraic_QkvIdeal_QkvRefIdeal (hQkvIdeal := hQkvIdeal) (hQkvRefIdeal := hQkvRefIdeal)
-- ==== Down.lean ====
abbrev S_ : Shape := ⟨0, ![]⟩
abbrev S4608x14336 : Shape := ⟨2, ![4608, 14336]⟩
abbrev S14336x5120 : Shape := ⟨2, ![14336, 5120]⟩
abbrev S4608x5120 : Shape := ⟨2, ![4608, 5120]⟩
abbrev S1 : Shape := ⟨1, ![1]⟩
abbrev S768x14336 : Shape := ⟨2, ![768, 14336]⟩
abbrev S14336x512 : Shape := ⟨2, ![14336, 512]⟩
abbrev S768x512 : Shape := ⟨2, ![768, 512]⟩

abbrev nBuf : Space → Nat
  | .hbm => 8
  | .vmem => 8
  | .smem => 2
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S4608x14336, .fp8e4m3⟩
  | .hbm, ⟨3, _⟩ => ⟨S14336x5120, .fp8e4m3⟩
  | .hbm, ⟨4, _⟩ => ⟨S4608x5120, .f32⟩
  | .hbm, ⟨5, _⟩ => ⟨S1, .f32⟩
  | .hbm, ⟨6, _⟩ => ⟨S1, .f32⟩
  | .hbm, ⟨7, _⟩ => ⟨S4608x5120, .bf16⟩
  | .local _ .vmem, ⟨0, _⟩ => ⟨S768x14336, .fp8e4m3⟩
  | .local _ .vmem, ⟨1, _⟩ => ⟨S768x14336, .fp8e4m3⟩
  | .local _ .vmem, ⟨2, _⟩ => ⟨S14336x512, .fp8e4m3⟩
  | .local _ .vmem, ⟨3, _⟩ => ⟨S14336x512, .fp8e4m3⟩
  | .local _ .vmem, ⟨4, _⟩ => ⟨S768x512, .f32⟩
  | .local _ .vmem, ⟨5, _⟩ => ⟨S768x512, .f32⟩
  | .local _ .vmem, ⟨6, _⟩ => ⟨S768x512, .bf16⟩
  | .local _ .vmem, ⟨7, _⟩ => ⟨S768x512, .bf16⟩
  | .local _ .smem, ⟨0, _⟩ => ⟨S1, .f32⟩
  | .local _ .smem, ⟨1, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![6, 10], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x14336 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S14336x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S_ : Shape := ⟨0, ![]⟩
abbrev S4608x14336 : Shape := ⟨2, ![4608, 14336]⟩
abbrev S14336x5120 : Shape := ⟨2, ![14336, 5120]⟩
abbrev S4608x5120 : Shape := ⟨2, ![4608, 5120]⟩
abbrev S1 : Shape := ⟨1, ![1]⟩

abbrev nBuf : Space → Nat
  | .hbm => 8
  | .vmem => 4
  | .smem => 2
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S4608x14336, .fp8e4m3⟩
  | .hbm, ⟨3, _⟩ => ⟨S14336x5120, .fp8e4m3⟩
  | .hbm, ⟨4, _⟩ => ⟨S4608x5120, .f32⟩
  | .hbm, ⟨5, _⟩ => ⟨S1, .f32⟩
  | .hbm, ⟨6, _⟩ => ⟨S1, .f32⟩
  | .hbm, ⟨7, _⟩ => ⟨S4608x5120, .bf16⟩
  | .local _ .vmem, ⟨0, _⟩ => ⟨S4608x14336, .fp8e4m3⟩
  | .local _ .vmem, ⟨1, _⟩ => ⟨S14336x5120, .fp8e4m3⟩
  | .local _ .vmem, ⟨2, _⟩ => ⟨S4608x5120, .f32⟩
  | .local _ .vmem, ⟨3, _⟩ => ⟨S4608x5120, .bf16⟩
  | .local _ .smem, ⟨0, _⟩ => ⟨S1, .f32⟩
  | .local _ .smem, ⟨1, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GateUp.lean ====
abbrev S_ : Shape := ⟨0, ![]⟩
abbrev S2 : Shape := ⟨1, ![2]⟩
abbrev S4608x5120 : Shape := ⟨2, ![4608, 5120]⟩
abbrev S5120x28672 : Shape := ⟨2, ![5120, 28672]⟩
abbrev S1 : Shape := ⟨1, ![1]⟩
abbrev S4608x14336 : Shape := ⟨2, ![4608, 14336]⟩
abbrev S5120x256 : Shape := ⟨2, ![5120, 256]⟩
abbrev S4608x256 : Shape := ⟨2, ![4608, 256]⟩
abbrev S512x5120 : Shape := ⟨2, ![512, 5120]⟩
abbrev S512x256 : Shape := ⟨2, ![512, 256]⟩

abbrev nBuf : Space → Nat
  | .hbm => 8
  | .vmem => 7
  | .smem => 3
  | _ => 0

abbrev bufTy : (tb : Table) → Fin (tcTables nBuf tb) → BufTy
  | .hbm, ⟨0, _⟩ => ⟨S_, .f32⟩
  | .hbm, ⟨1, _⟩ => ⟨S2, .f32⟩
  | .hbm, ⟨2, _⟩ => ⟨S_, .f32⟩
  | .hbm, ⟨3, _⟩ => ⟨S4608x5120, .fp8e4m3⟩
  | .hbm, ⟨4, _⟩ => ⟨S5120x28672, .fp8e4m3⟩
  | .hbm, ⟨5, _⟩ => ⟨S1, .f32⟩
  | .hbm, ⟨6, _⟩ => ⟨S1, .f32⟩
  | .hbm, ⟨7, _⟩ => ⟨S4608x14336, .fp8e4m3⟩
  | .local _ .vmem, ⟨0, _⟩ => ⟨S4608x5120, .fp8e4m3⟩
  | .local _ .vmem, ⟨1, _⟩ => ⟨S5120x256, .fp8e4m3⟩
  | .local _ .vmem, ⟨2, _⟩ => ⟨S5120x256, .fp8e4m3⟩
  | .local _ .vmem, ⟨3, _⟩ => ⟨S5120x256, .fp8e4m3⟩
  | .local _ .vmem, ⟨4, _⟩ => ⟨S5120x256, .fp8e4m3⟩
  | .local _ .vmem, ⟨5, _⟩ => ⟨S4608x256, .fp8e4m3⟩
  | .local _ .vmem, ⟨6, _⟩ => ⟨S4608x256, .fp8e4m3⟩
  | .local _ .smem, ⟨0, _⟩ => ⟨S1, .f32⟩
  | .local _ .smem, ⟨1, _⟩ => ⟨S2, .f32⟩
  | .local _ .smem, ⟨2, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![56], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4608x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5120x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5120x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4608x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateUpRefIdeal.lean ====
abbrev S_ : Shape := ⟨0, ![]⟩
abbrev S2 : Shape := ⟨1, ![2]⟩
abbrev S4608x5120 : Shape := ⟨2, ![4608, 5120]⟩
abbrev S5120x28672 : Shape := ⟨2, ![5120, 28672]⟩
abbrev S1 : Shape := ⟨1, ![1]⟩
abbrev S4608x14336 : Shape := ⟨2, ![4608, 14336]⟩
abbrev S4608x28672 : Shape := ⟨2, ![4608, 28672]⟩

abbrev nBuf : Space → Nat
  | .hbm => 8
  | .vmem => 3
  | .smem => 3
  | _ => 0

abbrev bufTy : (tb : Table) → Fin (tcTables nBuf tb) → BufTy
  | .hbm, ⟨0, _⟩ => ⟨S_, .f32⟩
  | .hbm, ⟨1, _⟩ => ⟨S2, .f32⟩
  | .hbm, ⟨2, _⟩ => ⟨S_, .f32⟩
  | .hbm, ⟨3, _⟩ => ⟨S4608x5120, .fp8e4m3⟩
  | .hbm, ⟨4, _⟩ => ⟨S5120x28672, .fp8e4m3⟩
  | .hbm, ⟨5, _⟩ => ⟨S1, .f32⟩
  | .hbm, ⟨6, _⟩ => ⟨S1, .f32⟩
  | .hbm, ⟨7, _⟩ => ⟨S4608x14336, .fp8e4m3⟩
  | .local _ .vmem, ⟨0, _⟩ => ⟨S4608x5120, .fp8e4m3⟩
  | .local _ .vmem, ⟨1, _⟩ => ⟨S5120x28672, .fp8e4m3⟩
  | .local _ .vmem, ⟨2, _⟩ => ⟨S4608x14336, .fp8e4m3⟩
  | .local _ .smem, ⟨0, _⟩ => ⟨S1, .f32⟩
  | .local _ .smem, ⟨1, _⟩ => ⟨S2, .f32⟩
  | .local _ .smem, ⟨2, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x28672 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x14336 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== OProj.lean ====
abbrev S_ : Shape := ⟨0, ![]⟩
abbrev S4608x4096 : Shape := ⟨2, ![4608, 4096]⟩
abbrev S4608x5120 : Shape := ⟨2, ![4608, 5120]⟩
abbrev S5120 : Shape := ⟨1, ![5120]⟩
abbrev S4096x5120 : Shape := ⟨2, ![4096, 5120]⟩
abbrev S1 : Shape := ⟨1, ![1]⟩
abbrev S1x5120 : Shape := ⟨2, ![1, 5120]⟩
abbrev S256x4096 : Shape := ⟨2, ![256, 4096]⟩
abbrev S256x5120 : Shape := ⟨2, ![256, 5120]⟩
abbrev S4096x256 : Shape := ⟨2, ![4096, 256]⟩
abbrev S256x256 : Shape := ⟨2, ![256, 256]⟩
abbrev S32x5120 : Shape := ⟨2, ![32, 5120]⟩
abbrev S32 : Shape := ⟨1, ![32]⟩
abbrev S32x1 : Shape := ⟨2, ![32, 1]⟩

abbrev nBuf : Space → Nat
  | .hbm => 13
  | .vmem => 10
  | .smem => 3
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S4608x4096, .fp8e4m3⟩
  | .hbm, ⟨4, _⟩ => ⟨S4608x5120, .bf16⟩
  | .hbm, ⟨5, _⟩ => ⟨S5120, .f32⟩
  | .hbm, ⟨6, _⟩ => ⟨S4096x5120, .fp8e4m3⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1x5120, .f32⟩
  | .hbm, ⟨11, _⟩ => ⟨S4608x5120, .f32⟩
  | .hbm, ⟨12, _⟩ => ⟨S4608x5120, .fp8e4m3⟩
  | .local _ .vmem, ⟨0, _⟩ => ⟨S256x4096, .fp8e4m3⟩
  | .local _ .vmem, ⟨1, _⟩ => ⟨S256x4096, .fp8e4m3⟩
  | .local _ .vmem, ⟨2, _⟩ => ⟨S256x5120, .bf16⟩
  | .local _ .vmem, ⟨3, _⟩ => ⟨S256x5120, .bf16⟩
  | .local _ .vmem, ⟨4, _⟩ => ⟨S1x5120, .f32⟩
  | .local _ .vmem, ⟨5, _⟩ => ⟨S4096x5120, .fp8e4m3⟩
  | .local _ .vmem, ⟨6, _⟩ => ⟨S256x5120, .f32⟩
  | .local _ .vmem, ⟨7, _⟩ => ⟨S256x5120, .f32⟩
  | .local _ .vmem, ⟨8, _⟩ => ⟨S256x5120, .fp8e4m3⟩
  | .local _ .vmem, ⟨9, _⟩ => ⟨S256x5120, .fp8e4m3⟩
  | .local _ .smem, ⟨0, _⟩ => ⟨S1, .f32⟩
  | .local _ .smem, ⟨1, _⟩ => ⟨S1, .f32⟩
  | .local _ .smem, ⟨2, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![18], ![false]⟩

@[reducible] def k0_t1_loop : Scf.Loop 32 :=
  let c0_i32 : BitVec 32 := 0#32
  let c8_i32 : BitVec 32 := 8#32
  let v242 : BitVec 32 := Scalar.addi c0_i32 c8_i32
  let c1_i32 : BitVec 32 := 1#32
  ⟨c0_i32, v242, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v243 : BitVec 32 := Scalar.muli arg10 c32_i32
  let v244 : Index := Scalar.indexCast v243
  let c0_163 : Index := 0#32
  ![v244.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5120 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OProjRefIdeal.lean ====
abbrev S_ : Shape := ⟨0, ![]⟩
abbrev S4608x4096 : Shape := ⟨2, ![4608, 4096]⟩
abbrev S4608x5120 : Shape := ⟨2, ![4608, 5120]⟩
abbrev S5120 : Shape := ⟨1, ![5120]⟩
abbrev S4096x5120 : Shape := ⟨2, ![4096, 5120]⟩
abbrev S1 : Shape := ⟨1, ![1]⟩
abbrev S1x5120 : Shape := ⟨2, ![1, 5120]⟩
abbrev S4608 : Shape := ⟨1, ![4608]⟩
abbrev S4608x1 : Shape := ⟨2, ![4608, 1]⟩

abbrev nBuf : Space → Nat
  | .hbm => 13
  | .vmem => 6
  | .smem => 3
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S4608x4096, .fp8e4m3⟩
  | .hbm, ⟨4, _⟩ => ⟨S4608x5120, .bf16⟩
  | .hbm, ⟨5, _⟩ => ⟨S5120, .f32⟩
  | .hbm, ⟨6, _⟩ => ⟨S4096x5120, .fp8e4m3⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1x5120, .f32⟩
  | .hbm, ⟨11, _⟩ => ⟨S4608x5120, .f32⟩
  | .hbm, ⟨12, _⟩ => ⟨S4608x5120, .fp8e4m3⟩
  | .local _ .vmem, ⟨0, _⟩ => ⟨S4608x4096, .fp8e4m3⟩
  | .local _ .vmem, ⟨1, _⟩ => ⟨S4608x5120, .bf16⟩
  | .local _ .vmem, ⟨2, _⟩ => ⟨S1x5120, .f32⟩
  | .local _ .vmem, ⟨3, _⟩ => ⟨S4096x5120, .fp8e4m3⟩
  | .local _ .vmem, ⟨4, _⟩ => ⟨S4608x5120, .f32⟩
  | .local _ .vmem, ⟨5, _⟩ => ⟨S4608x5120, .fp8e4m3⟩
  | .local _ .smem, ⟨0, _⟩ => ⟨S1, .f32⟩
  | .local _ .smem, ⟨1, _⟩ => ⟨S1, .f32⟩
  | .local _ .smem, ⟨2, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4608x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Qkv.lean ====
abbrev S4608x5120 : Shape := ⟨2, ![4608, 5120]⟩
abbrev S4608x64 : Shape := ⟨2, ![4608, 64]⟩
abbrev S5120 : Shape := ⟨1, ![5120]⟩
abbrev S_ : Shape := ⟨0, ![]⟩
abbrev S5120x6144 : Shape := ⟨2, ![5120, 6144]⟩
abbrev S3 : Shape := ⟨1, ![3]⟩
abbrev S32 : Shape := ⟨1, ![32]⟩
abbrev S8 : Shape := ⟨1, ![8]⟩
abbrev S1x5120 : Shape := ⟨2, ![1, 5120]⟩
abbrev S1 : Shape := ⟨1, ![1]⟩
abbrev S4608x4096 : Shape := ⟨2, ![4608, 4096]⟩
abbrev S4608x1024 : Shape := ⟨2, ![4608, 1024]⟩
abbrev S256x5120 : Shape := ⟨2, ![256, 5120]⟩
abbrev S256x64 : Shape := ⟨2, ![256, 64]⟩
abbrev S256x4096 : Shape := ⟨2, ![256, 4096]⟩
abbrev S256x1024 : Shape := ⟨2, ![256, 1024]⟩
abbrev S32x5120 : Shape := ⟨2, ![32, 5120]⟩
abbrev S32x1 : Shape := ⟨2, ![32, 1]⟩
abbrev S256x128 : Shape := ⟨2, ![256, 128]⟩
abbrev S5120x256 : Shape := ⟨2, ![5120, 256]⟩
abbrev S256x256 : Shape := ⟨2, ![256, 256]⟩

abbrev nBuf : Space → Nat
  | .hbm => 16
  | .vmem => 16
  | .smem => 5
  | _ => 0

abbrev bufTy : (tb : Table) → Fin (tcTables nBuf tb) → BufTy
  | .hbm, ⟨0, _⟩ => ⟨S4608x5120, .bf16⟩
  | .hbm, ⟨1, _⟩ => ⟨S4608x64, .f32⟩
  | .hbm, ⟨2, _⟩ => ⟨S4608x64, .f32⟩
  | .hbm, ⟨3, _⟩ => ⟨S5120, .f32⟩
  | .hbm, ⟨4, _⟩ => ⟨S_, .f32⟩
  | .hbm, ⟨5, _⟩ => ⟨S5120x6144, .fp8e4m3⟩
  | .hbm, ⟨6, _⟩ => ⟨S3, .f32⟩
  | .hbm, ⟨7, _⟩ => ⟨S32, .f32⟩
  | .hbm, ⟨8, _⟩ => ⟨S8, .f32⟩
  | .hbm, ⟨9, _⟩ => ⟨S8, .f32⟩
  | .hbm, ⟨10, _⟩ => ⟨S1x5120, .f32⟩
  | .hbm, ⟨11, _⟩ => ⟨S1, .f32⟩
  | .hbm, ⟨12, _⟩ => ⟨S4608x5120, .fp8e4m3⟩
  | .hbm, ⟨13, _⟩ => ⟨S4608x4096, .fp8e4m3⟩
  | .hbm, ⟨14, _⟩ => ⟨S4608x1024, .fp8e4m3⟩
  | .hbm, ⟨15, _⟩ => ⟨S4608x1024, .fp8e4m3⟩
  | .local _ .vmem, ⟨0, _⟩ => ⟨S256x5120, .bf16⟩
  | .local _ .vmem, ⟨1, _⟩ => ⟨S256x5120, .bf16⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S1x5120, .f32⟩
  | .local _ .vmem, ⟨7, _⟩ => ⟨S5120x6144, .fp8e4m3⟩
  | .local _ .vmem, ⟨8, _⟩ => ⟨S256x5120, .fp8e4m3⟩
  | .local _ .vmem, ⟨9, _⟩ => ⟨S256x5120, .fp8e4m3⟩
  | .local _ .vmem, ⟨10, _⟩ => ⟨S256x4096, .fp8e4m3⟩
  | .local _ .vmem, ⟨11, _⟩ => ⟨S256x4096, .fp8e4m3⟩
  | .local _ .vmem, ⟨12, _⟩ => ⟨S256x1024, .fp8e4m3⟩
  | .local _ .vmem, ⟨13, _⟩ => ⟨S256x1024, .fp8e4m3⟩
  | .local _ .vmem, ⟨14, _⟩ => ⟨S256x1024, .fp8e4m3⟩
  | .local _ .vmem, ⟨15, _⟩ => ⟨S256x1024, .fp8e4m3⟩
  | .local _ .smem, ⟨0, _⟩ => ⟨S1, .f32⟩
  | .local _ .smem, ⟨1, _⟩ => ⟨S3, .f32⟩
  | .local _ .smem, ⟨2, _⟩ => ⟨S32, .f32⟩
  | .local _ .smem, ⟨3, _⟩ => ⟨S8, .f32⟩
  | .local _ .smem, ⟨4, _⟩ => ⟨S8, .f32⟩
  | _, _ => ⟨S4608x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg10_1 : Ref sig .tc := ⟨.vmem, 9, rfl⟩
abbrev cc0_stg11_0 : Ref sig .tc := ⟨.vmem, 10, rfl⟩
abbrev cc0_stg11_1 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![18], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v938 : BitVec 32 := Scalar.muli arg15 c32_i32
  let v939 : Index := Scalar.indexCast v938
  let c0_336 : Index := 0#32
  ![v939.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5120x6144 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x5120 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== QkvRefIdeal.lean ====
abbrev S4608x5120 : Shape := ⟨2, ![4608, 5120]⟩
abbrev S4608x64 : Shape := ⟨2, ![4608, 64]⟩
abbrev S5120 : Shape := ⟨1, ![5120]⟩
abbrev S_ : Shape := ⟨0, ![]⟩
abbrev S5120x6144 : Shape := ⟨2, ![5120, 6144]⟩
abbrev S3 : Shape := ⟨1, ![3]⟩
abbrev S32 : Shape := ⟨1, ![32]⟩
abbrev S8 : Shape := ⟨1, ![8]⟩
abbrev S1 : Shape := ⟨1, ![1]⟩
abbrev S1x32x1 : Shape := ⟨3, ![1, 32, 1]⟩
abbrev S1x8x1 : Shape := ⟨3, ![1, 8, 1]⟩
abbrev S1x5120 : Shape := ⟨2, ![1, 5120]⟩
abbrev S4608x4096 : Shape := ⟨2, ![4608, 4096]⟩
abbrev S4608x1024 : Shape := ⟨2, ![4608, 1024]⟩
abbrev S4608 : Shape := ⟨1, ![4608]⟩
abbrev S4608x1 : Shape := ⟨2, ![4608, 1]⟩
abbrev S4608x6144 : Shape := ⟨2, ![4608, 6144]⟩
abbrev S4608x32x128 : Shape := ⟨3, ![4608, 32, 128]⟩
abbrev S4608x8x128 : Shape := ⟨3, ![4608, 8, 128]⟩
abbrev S4608x32x64 : Shape := ⟨3, ![4608, 32, 64]⟩
abbrev S4608x1x64 : Shape := ⟨3, ![4608, 1, 64]⟩
abbrev S4608x8x64 : Shape := ⟨3, ![4608, 8, 64]⟩

abbrev nBuf : Space → Nat
  | .hbm => 19
  | .vmem => 12
  | .smem => 2
  | _ => 0

abbrev bufTy : (tb : Table) → Fin (tcTables nBuf tb) → BufTy
  | .hbm, ⟨0, _⟩ => ⟨S4608x5120, .bf16⟩
  | .hbm, ⟨1, _⟩ => ⟨S4608x64, .f32⟩
  | .hbm, ⟨2, _⟩ => ⟨S4608x64, .f32⟩
  | .hbm, ⟨3, _⟩ => ⟨S5120, .f32⟩
  | .hbm, ⟨4, _⟩ => ⟨S_, .f32⟩
  | .hbm, ⟨5, _⟩ => ⟨S5120x6144, .fp8e4m3⟩
  | .hbm, ⟨6, _⟩ => ⟨S3, .f32⟩
  | .hbm, ⟨7, _⟩ => ⟨S32, .f32⟩
  | .hbm, ⟨8, _⟩ => ⟨S8, .f32⟩
  | .hbm, ⟨9, _⟩ => ⟨S8, .f32⟩
  | .hbm, ⟨10, _⟩ => ⟨S1, .f32⟩
  | .hbm, ⟨11, _⟩ => ⟨S1x32x1, .f32⟩
  | .hbm, ⟨12, _⟩ => ⟨S1x8x1, .f32⟩
  | .hbm, ⟨13, _⟩ => ⟨S1x8x1, .f32⟩
  | .hbm, ⟨14, _⟩ => ⟨S1x5120, .f32⟩
  | .hbm, ⟨15, _⟩ => ⟨S4608x5120, .fp8e4m3⟩
  | .hbm, ⟨16, _⟩ => ⟨S4608x4096, .fp8e4m3⟩
  | .hbm, ⟨17, _⟩ => ⟨S4608x1024, .fp8e4m3⟩
  | .hbm, ⟨18, _⟩ => ⟨S4608x1024, .fp8e4m3⟩
  | .local _ .vmem, ⟨0, _⟩ => ⟨S1x32x1, .f32⟩
  | .local _ .vmem, ⟨1, _⟩ => ⟨S1x8x1, .f32⟩
  | .local _ .vmem, ⟨2, _⟩ => ⟨S1x8x1, .f32⟩
  | .local _ .vmem, ⟨3, _⟩ => ⟨S4608x5120, .bf16⟩
  | .local _ .vmem, ⟨4, _⟩ => ⟨S4608x64, .f32⟩
  | .local _ .vmem, ⟨5, _⟩ => ⟨S4608x64, .f32⟩
  | .local _ .vmem, ⟨6, _⟩ => ⟨S1x5120, .f32⟩
  | .local _ .vmem, ⟨7, _⟩ => ⟨S5120x6144, .fp8e4m3⟩
  | .local _ .vmem, ⟨8, _⟩ => ⟨S4608x5120, .fp8e4m3⟩
  | .local _ .vmem, ⟨9, _⟩ => ⟨S4608x4096, .fp8e4m3⟩
  | .local _ .vmem, ⟨10, _⟩ => ⟨S4608x1024, .fp8e4m3⟩
  | .local _ .vmem, ⟨11, _⟩ => ⟨S4608x1024, .fp8e4m3⟩
  | .local _ .smem, ⟨0, _⟩ => ⟨S1, .f32⟩
  | .local _ .smem, ⟨1, _⟩ => ⟨S3, .f32⟩
  | _, _ => ⟨S4608x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg13_0 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5120x6144 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4608x5120 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4608x4096 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4608x1024 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4608x1024 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.DownKernel.lean ====
module

public import proofs.«01_k».proof.Proof.Gen.DownIdeal.Frame
public import proofs.«01_k».proof.Proof.Gen.DownRefIdeal.Skeleton
public import Idealize.ShloMosaic.Lib.Pipeline.ValueKit
public import Idealize.ShloMosaic.Lib.Pointwise
public import Idealize.ShloMosaic.Lib.Claim

/-! What the down projection's kernel leaves in its result array. -/

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen

variable (m : (ℓ : Loc nD τ sig) → Buf (Elt Ideal) ℓ)

/-- The plain mathematics: the product of the whole code arrays, scaled, added to the residual. -/
abbrev REF (sh ws : EReal) (H : FVec Ideal S4608x14336 .fp8e4m3) (W : FVec Ideal S14336x5120 .fp8e4m3)
    (H1 : FVec Ideal S4608x5120 .f32) : FVec Ideal S4608x5120 .bf16 :=
  Cert.DownRefIdeal.Gen.k0_pay1 (F := Ideal) H W sh ws H1

/-- The windows' block indices at every grid point. -/
theorem idx : ∀ t : Fin cfg0.N, win0_0.index t = ![0] ∧ win0_1.index t = ![0] ∧ win0_2.index t = ![t.val / 10, 0]
    ∧ win0_3.index t = ![0, t.val % 10] ∧ win0_4.index t = ![t.val / 10, t.val % 10]
    ∧ win0_5.index t = ![t.val / 10, t.val % 10] :=
  (by decide +kernel : ∀ t : Fin grid0.N, _)

/-- The kernel's result array is that product, whole. -/
theorem final (c : Dev nD) : (dats m 0 c).arrAt 5 (cfgs 0).N
    = REF (m ((c : Thread nD τ).loc main_arg0) ValueIdx.ix0) (m ((c : Thread nD τ).loc main_arg1) ValueIdx.ix0)
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  pointwise [k0_pay1, REF, Cert.DownRefIdeal.Gen.k0_pay1]
  blk_point [iblk, V, idx t]

end Cert.DownIdeal.Value

end
-- ==== Proof.DownRef.lean ====
module

public import proofs.«01_k».proof.Proof.Gen.DownRefIdeal.Frame
public import Idealize.ShloMosaic.Lib.Pipeline.ValueKit
public import Idealize.ShloMosaic.Lib.Pointwise
public import Idealize.ShloMosaic.Lib.Pipeline.ReadBack
public import Idealize.ShloMosaic.Lib.Claim

/-! What the down projection's reference leaves in its result array. -/

@[expose] public section

set_option maxRecDepth 16384

noncomputable section

open Idealize.ShloMosaic Idealize.ShloMosaic.TcCoe Idealize.SL.Sem
open Idealize.ShloMosaic.Pipeline (Dat)

namespace Cert.DownRefIdeal.Value

open Cert.DownRefIdeal Cert.DownRefIdeal.Gen

variable (m : (ℓ : Loc nD τ sig) → Buf (Elt Ideal) ℓ)

/-- Every block is its whole array. -/
theorem idx : win0_0.index t0_0 = ![0] ∧ win0_1.index t0_0 = ![0] ∧ win0_2.index t0_0 = ![0, 0]
    ∧ win0_3.index t0_0 = ![0, 0] ∧ win0_4.index t0_0 = ![0, 0] := by decide +kernel

/-- The reference's result array is its payload over its argument arrays. -/
theorem final (c : Dev nD) : (dats m 0 c).arrAt 5 (cfgs 0).N
    = k0_pay1 (F := Ideal) (m ((c : Thread nD τ).loc main_arg2)) (m ((c : Thread nD τ).loc main_arg3))
        (m ((c : Thread nD τ).loc main_arg0) ValueIdx.ix0) (m ((c : Thread nD τ).loc main_arg1) ValueIdx.ix0)
        (m ((c : Thread nD τ).loc main_arg4)) := by
  refine (dats m 0 c).arrAt_eq_of_after_last 5 t0_0 (by decide +kernel) _ fun j => ?_
  blk_simp
  rw [after0_5]
  unfold outsAt0
  frame_out
  simp only [read_unread_whole]
  pointwise [k0_pay1]
  blk_point [iblk, V, idx]

end Cert.DownRefIdeal.Value

end
-- ==== Proof.DownEq.lean ====
module

public import proofs.«01_k».proof.Defs
public import proofs.«01_k».proof.Proof.DownKernel
public import proofs.«01_k».proof.Proof.DownRef

/-! The down projection: kernel and reference leave the same array. -/

@[expose] public section

set_option maxRecDepth 16384

noncomputable section

open Idealize.ShloMosaic Idealize.ShloMosaic.TcCoe Idealize.SL.Sem

namespace Cert.DownEq

/-- Over the extended reals, from arguments that agree, the kernel and the reference of the down projection both run to
    the end and leave equal result arrays and their arguments unchanged. -/
theorem algebraic : Cert.algebraic_DownIdeal_DownRefIdeal := by
  pair_intro
  · run_from Cert.DownIdeal.Gen.run_main m g
  · run_from Cert.DownRefIdeal.Gen.run_main m' g'
    obtain ⟨h0, h1, h2, h3, h4⟩ := hagree c
    refine (Cert.DownRefIdeal.Value.final m' c).trans (Eq.trans ?_ (Cert.DownIdeal.Value.final m c).symm)
    rw [h0, h1, h2, h3, h4]

end Cert.DownEq

end
-- ==== Proof.GateUpKernel.lean ====
module

public import proofs.«01_k».proof.Proof.Gen.GateUpIdeal.Frame
public import proofs.«01_k».proof.Proof.Gen.GateUpRefIdeal.Skeleton
public import Idealize.ShloMosaic.Lib.Pipeline.ValueKit
public import Idealize.ShloMosaic.Lib.Pointwise
public import Idealize.ShloMosaic.Lib.Claim

/-! What the gate and up projections's kernel leaves in its result array. -/

@[expose] public section

set_option maxRecDepth 16384

noncomputable section

open Idealize.ShloMosaic Idealize.ShloMosaic.TcCoe Idealize.SL.Sem
open Idealize.ShloMosaic.Pipeline (Dat)

namespace Cert.GateUpIdeal.Value

open Cert.GateUpIdeal Cert.GateUpIdeal.Gen

variable (m : (ℓ : Loc nD τ sig) → Buf (Elt Ideal) ℓ)

/-- The plain mathematics over the whole arrays: both products, scaled, the gate's silu, the product, and the codes. -/
abbrev REF (sx wg wu sh : EReal) (X : FVec Ideal S4608x5120 .fp8e4m3) (W : FVec Ideal S5120x28672 .fp8e4m3) :
    FVec Ideal S4608x14336 .fp8e4m3 :=
  Cert.GateUpRefIdeal.Gen.k0_pay1 (F := Ideal) X W sx wg sx wu sh

/-- The windows' block indices at every grid point. -/
theorem idx : ∀ t : Fin cfg0.N, win0_0.index t = ![0] ∧ win0_1.index t = ![0] ∧ win0_2.index t = ![0] ∧ win0_3.index t = ![0, 0]
    ∧ win0_4.index t = ![0, t.val] ∧ win0_5.index t = ![0, t.val + 56]
    ∧ win0_6.index t = ![0, t.val] :=
  (by decide +kernel : ∀ t : Fin grid0.N, _)

/-- One code of the block at a grid point, from the blocks read: row `i` of the activations, column `q` of the block. -/
def mid (sx : FVec Ideal S1 .f32) (ws : FVec Ideal S2 .f32) (sh : FVec Ideal S1 .f32) (X : FVec Ideal S4608x5120 .fp8e4m3)
    (G U : FVec Ideal S5120x256 .fp8e4m3) (i : Fin 4608) (q : Fin 256) : EReal :=
  min (Ideal.ofBits FTy.f32 1138753536#32)
    (max (Ideal.ofBits FTy.f32 3286237184#32)
      (Ideal.div
        ((∑ k : Fin 5120, X (ix2 i k) * G (ix2 k q)) * sx (ix1 0) * ws (ix1 0) *
            Ideal.logistic ((∑ k : Fin 5120, X (ix2 i k) * G (ix2 k q)) * sx (ix1 0) * ws (ix1 0)) *
          ((∑ k : Fin 5120, X (ix2 i k) * U (ix2 k q)) * sx (ix1 0) * ws (ix1 1)))
        (sh (ix1 0))))

/-- That code is the plain mathematics at row `i` and column `256 t + q`. -/
theorem core (c : Dev nD) (t : Fin cfg0.N) (i : Fin 4608) (q : Fin 256) (j : S4608x14336.Idx)
    (hj0 : (j 0 : ℕ) = i) (hj1 : (j 1 : ℕ) = t.val * 256 + q) :
    mid (iblk m c 0 t) (iblk m c 1 t) (iblk m c 2 t) (iblk m c 3 t) (iblk m c 4 t) (iblk m c 5 t) i q = REF (m ((c : Thread nD τ).loc main_arg0) ValueIdx.ix0) (m ((c : Thread nD τ).loc main_arg1) (ValueIdx.ix1 0)) (m ((c : Thread nD τ).loc main_arg1) (ValueIdx.ix1 1)) (m ((c : Thread nD τ).loc main_arg2) ValueIdx.ix0)
        (m ((c : Thread nD τ).loc main_arg3)) (m ((c : Thread nD τ).loc main_arg4)) j := by
  unfold mid
  pointwise [REF, Cert.GateUpRefIdeal.Gen.k0_pay1]
  blk_point [iblk, V, idx t]

set_option maxHeartbeats 1000000 in
/-- The kernel's result array is the plain mathematics, whole. -/
theorem final (c : Dev nD) : (dats m 0 c).arrAt 6 (cfgs 0).N
    = REF (m ((c : Thread nD τ).loc main_arg0) ValueIdx.ix0) (m ((c : Thread nD τ).loc main_arg1) (ValueIdx.ix1 0)) (m ((c : Thread nD τ).loc main_arg1) (ValueIdx.ix1 1)) (m ((c : Thread nD τ).loc main_arg2) ValueIdx.ix0)
        (m ((c : Thread nD τ).loc main_arg3)) (m ((c : Thread nD τ).loc main_arg4)) := by
  refine (dats m 0 c).arrAt_eq_of_covers 6 _ (by decide +kernel) fun t _ y => ?_
  blk_simp
  rw [after0_6]
  unfold outsAt0
  frame_out
  refine Eq.trans (b := mid (iblk m c 0 t) (iblk m c 1 t) (iblk m c 2 t) (iblk m c 3 t) (iblk m c 4 t) (iblk m c 5 t) (y 0) (y 1)) ?_ (core m c t (y 0) (y 1) _ ?_ ?_)
  · canon_tiles x h
    all_goals (open_payloads; pointwise; unfold mid; blk_point)
  all_goals (blk_simp [idx t] <;> try omega)

end Cert.GateUpIdeal.Value

end
-- ==== Proof.GateUpRef.lean ====
module

public import proofs.«01_k».proof.Proof.Gen.GateUpRefIdeal.Frame
public import Idealize.ShloMosaic.Lib.Pipeline.ValueKit
public import Idealize.ShloMosaic.Lib.Pointwise
public import Idealize.ShloMosaic.Lib.Pipeline.ReadBack
public import Idealize.ShloMosaic.Lib.Claim

/-! What the gate and up projections's reference leaves in its result array. -/

@[expose] public section

set_option maxRecDepth 16384

noncomputable section

open Idealize.ShloMosaic Idealize.ShloMosaic.TcCoe Idealize.SL.Sem
open Idealize.ShloMosaic.Pipeline (Dat)

namespace Cert.GateUpRefIdeal.Value

open Cert.GateUpRefIdeal Cert.GateUpRefIdeal.Gen

variable (m : (ℓ : Loc nD τ sig) → Buf (Elt Ideal) ℓ)

/-- Every block is its whole array. -/
theorem idx : win0_0.index t0_0 = ![0] ∧ win0_1.index t0_0 = ![0] ∧ win0_2.index t0_0 = ![0]
    ∧ win0_3.index t0_0 = ![0, 0] ∧ win0_4.index t0_0 = ![0, 0] := by decide +kernel

/-- The reference's result array is its payload over its argument arrays. -/
theorem final (c : Dev nD) : (dats m 0 c).arrAt 5 (cfgs 0).N
    = k0_pay1 (F := Ideal) (m ((c : Thread nD τ).loc main_arg3)) (m ((c : Thread nD τ).loc main_arg4))
        (m ((c : Thread nD τ).loc main_arg0) ValueIdx.ix0) (m ((c : Thread nD τ).loc main_arg1) (ValueIdx.ix1 0))
        (m ((c : Thread nD τ).loc main_arg0) ValueIdx.ix0) (m ((c : Thread nD τ).loc main_arg1) (ValueIdx.ix1 1))
        (m ((c : Thread nD τ).loc main_arg2) ValueIdx.ix0) := by
  refine (dats m 0 c).arrAt_eq_of_after_last 5 t0_0 (by decide +kernel) _ fun j => ?_
  blk_simp
  rw [after0_5]
  unfold outsAt0
  frame_out
  simp only [read_unread_whole]
  pointwise [k0_pay1]
  blk_point [iblk, V, idx]

end Cert.GateUpRefIdeal.Value

end
-- ==== Proof.GateUpEq.lean ====
module

public import proofs.«01_k».proof.Defs
public import proofs.«01_k».proof.Proof.GateUpKernel
public import proofs.«01_k».proof.Proof.GateUpRef

/-! The gate and up projections: kernel and reference leave the same array. -/

@[expose] public section

set_option maxRecDepth 16384

noncomputable section

open Idealize.ShloMosaic Idealize.ShloMosaic.TcCoe Idealize.SL.Sem

namespace Cert.GateUpEq

/-- Over the extended reals, from arguments that agree, the kernel and the reference of the gate and up projections both run to
    the end and leave equal result arrays and their arguments unchanged. -/
theorem algebraic : Cert.algebraic_GateUpIdeal_GateUpRefIdeal := by
  pair_intro
  · run_from Cert.GateUpIdeal.Gen.run_main m g
  · run_from Cert.GateUpRefIdeal.Gen.run_main m' g'
    obtain ⟨h0, h1, h2, h3, h4⟩ := hagree c
    refine (Cert.GateUpRefIdeal.Value.final m' c).trans (Eq.trans ?_ (Cert.GateUpIdeal.Value.final m c).symm)
    rw [h0, h1, h2, h3, h4]

end Cert.GateUpEq

end
-- ==== Proof.Norm.lean ====
module

public import Idealize.ShloMosaic.Lib.Pointwise
public import Idealize.ShloMosaic.Lib.Claim

/-! The root-mean-square normalisation and the quantiser that follows it, on one row of extended reals. -/

@[expose] public section

noncomputable section

open Idealize.ShloMosaic

namespace Cert.Norm

/-- The mean of a row's squares plus the small constant. -/
def meanSq (h : Fin 5120 → EReal) : EReal :=
  Ideal.div (∑ k : Fin 5120, h k * h k) (Ideal.ofBits FTy.f32 1168113664#32) + Ideal.ofBits FTy.f32 925353388#32

/-- One code of a normalised row `h` at column `q`, weight `w`, scale `s`, with the reciprocal square root as a factor. -/
def code (h : Fin 5120 → EReal) (w s : EReal) (q : Fin 5120) : EReal :=
  min (Ideal.ofBits FTy.f32 1138753536#32)
    (max (Ideal.ofBits FTy.f32 3286237184#32)
      (Ideal.div (h q * Ideal.rsqrt (meanSq h) * w) s))

/-- The same code with a division by the square root. -/
def codeDiv (h : Fin 5120 → EReal) (w s : EReal) (q : Fin 5120) : EReal :=
  min (Ideal.ofBits FTy.f32 1138753536#32)
    (max (Ideal.ofBits FTy.f32 3286237184#32)
      (Ideal.div (Ideal.div (h q) (Ideal.sqrt (meanSq h)) * w) s))

/-- For a positive `x`, dividing by its square root is multiplying by its reciprocal square root, at infinity too. -/
theorem div_sqrt (v x : EReal) (hx : 0 < x) : Ideal.div v (Ideal.sqrt x) = v * Ideal.rsqrt x := by
  induction x with
  | bot => exact absurd hx (by simp)
  | top =>
    have e1 : Ideal.sqrt ⊤ = ⊤ := rfl
    have e2 : Ideal.rsqrt ⊤ = 0 := rfl
    rw [e1, e2]
    simp [Ideal.div]
  | coe r =>
    have hr : 0 < r := by exact_mod_cast hx
    have e1 : Ideal.sqrt (r : EReal) = if r < 0 then ⊥ else (Real.sqrt r : EReal) := rfl
    have e2 : Ideal.rsqrt (r : EReal) = if r < 0 then ⊥ else if r = 0 then ⊤ else (((Real.sqrt r)⁻¹ : ℝ) : EReal) := rfl
    have h2 : (Real.sqrt r : EReal) ≠ 0 := by exact_mod_cast (Real.sqrt_pos.mpr hr).ne'
    rw [e1, e2, if_neg hr.not_gt, if_neg hr.not_gt, if_neg hr.ne', Ideal.div, if_neg h2, EReal.coe_inv]

/-- A square is nonnegative. -/
theorem sq_nonneg' (v : EReal) : 0 ≤ v * v := by
  rcases le_total 0 v with h | h
  · exact mul_nonneg h h
  · exact EReal.mul_nonneg_iff.mpr (Or.inr ⟨h, h⟩)

/-- The small constant is positive. -/
theorem eps_pos : 0 < Ideal.ofBits FTy.f32 925353388#32 := by
  simp [Ideal.ofBits, Ideal.ieee, -EReal.coe_mul]

/-- The divisor of the mean is positive. -/
theorem len_pos : 0 < Ideal.ofBits FTy.f32 1168113664#32 := by
  simp [Ideal.ofBits, Ideal.ieee, -EReal.coe_mul]

/-- The mean of squares plus the small constant is positive for every row of extended reals. -/
theorem meanSq_pos (h : Fin 5120 → EReal) : 0 < meanSq h := by
  unfold meanSq
  refine lt_of_lt_of_le eps_pos (le_add_of_nonneg_left ?_)
  unfold Ideal.div
  rw [if_neg len_pos.ne']
  exact mul_nonneg (Finset.sum_nonneg fun k _ => sq_nonneg' _) (EReal.inv_nonneg_of_nonneg len_pos.le)

/-- Equal rows, weights, scales and columns have equal codes. -/
theorem code_congr {h h' : Fin 5120 → EReal} {w w' s s' : EReal} {q q' : Fin 5120} (h1 : ∀ k, h k = h' k) (h2 : w = w')
    (h3 : s = s') (h4 : q = q') : code h w s q = code h' w' s' q' := by
  rw [funext h1, h2, h3, h4]

/-- Both forms of the code agree. -/
theorem codeDiv_eq (h : Fin 5120 → EReal) (w s : EReal) (q : Fin 5120) : codeDiv h w s q = code h w s q := by
  unfold codeDiv code
  rw [div_sqrt _ _ (meanSq_pos h)]

end Cert.Norm

end
-- ==== Proof.OProjKernel.lean ====
module

public import proofs.«01_k».proof.Proof.Gen.OProjIdeal.Frame
public import proofs.«01_k».proof.Proof.Gen.OProjRefIdeal.Skeleton
public import proofs.«01_k».proof.Proof.Norm
public import Idealize.ShloMosaic.Lib.Pipeline.ValueKit
public import Idealize.ShloMosaic.Lib.Pointwise
public import Idealize.ShloMosaic.Lib.Claim
public import Idealize.ShloMosaic.Lib.WholeRead

/-! What the output projection's kernel leaves in its two result arrays. -/

@[expose] public section

set_option maxRecDepth 16384

noncomputable section

open Idealize.ShloMosaic Idealize.ShloMosaic.TcCoe Idealize.SL.Sem
open Idealize.ShloMosaic.Pipeline (Dat)

namespace Cert.OProjIdeal.Value

open Cert.OProjIdeal Cert.OProjIdeal.Gen

variable (m : (ℓ : Loc nD τ sig) → Buf (Elt Ideal) ℓ)

/-- The residual row plus the scaled product, over the whole arrays. -/
abbrev REF1 (so ws : EReal) (O : FVec Ideal S4608x4096 .fp8e4m3) (X : FVec Ideal S4608x5120 .bf16)
    (W : FVec Ideal S4096x5120 .fp8e4m3) : FVec Ideal S4608x5120 .f32 :=
  Cert.OProjRefIdeal.Gen.k0_pay1 (F := Ideal) X O W so ws

/-- The codes of its normalised rows. -/
abbrev REF2 (so ws s2 : EReal) (O : FVec Ideal S4608x4096 .fp8e4m3) (X : FVec Ideal S4608x5120 .bf16)
    (L : FVec Ideal S1x5120 .f32) (W : FVec Ideal S4096x5120 .fp8e4m3) : FVec Ideal S4608x5120 .fp8e4m3 :=
  Cert.OProjRefIdeal.Gen.k0_pay2 (F := Ideal) X O W so ws L s2

/-- The windows' block indices at every grid point. -/
theorem idx : ∀ t : Fin cfg0.N, win0_0.index t = ![0] ∧ win0_1.index t = ![0] ∧ win0_2.index t = ![0] ∧ win0_3.index t = ![t.val, 0]
    ∧ win0_4.index t = ![t.val, 0] ∧ win0_5.index t = ![0, 0]
    ∧ win0_6.index t = ![0, 0] ∧ win0_7.index t = ![t.val, 0] ∧ win0_8.index t = ![t.val, 0] :=
  (by decide +kernel : ∀ t : Fin grid0.N, _)

/-- One element of the block of the first result at a grid point, from the blocks read. -/
def mid (so ws : FVec Ideal S1 .f32) (O : FVec Ideal S256x4096 .fp8e4m3) (X : FVec Ideal S256x5120 .bf16)
    (W : FVec Ideal S4096x5120 .fp8e4m3) (i : Fin 256) (q : Fin 5120) : EReal :=
  X (ix2 i q) + (∑ k : Fin 4096, O (ix2 i k) * W (ix2 k q)) * so (ix1 0) * ws (ix1 0)

/-- That element is the plain mathematics at row `256 t + i` and column `q`. -/
theorem core (c : Dev nD) (t : Fin cfg0.N) (i : Fin 256) (q : Fin 5120) (j : S4608x5120.Idx)
    (hj0 : (j 0 : ℕ) = t.val * 256 + i) (hj1 : (j 1 : ℕ) = q) :
    mid (iblk m c 0 t) (iblk m c 1 t) (iblk m c 3 t) (iblk m c 4 t) (iblk m c 6 t) i q
      = REF1 (m ((c : Thread nD τ).loc main_arg0) ValueIdx.ix0) (m ((c : Thread nD τ).loc main_arg1) ValueIdx.ix0)
        (m ((c : Thread nD τ).loc main_arg3)) (m ((c : Thread nD τ).loc main_arg4)) (m ((c : Thread nD τ).loc main_arg6)) j := by
  unfold mid
  pointwise [REF1, Cert.OProjRefIdeal.Gen.k0_pay1]
  blk_point [iblk, V, idx t]

/-- A norm trip's codes: at each element the code of its row. -/
theorem pay2_eq (s : EReal) (V : FVec Ideal S32x5120 .f32) (w : FVec Ideal S1x5120 .f32) (x : S32x5120.Idx) :
    k0_pay2 (F := Ideal) s V w x = Cert.Norm.code (fun k => V (ix2 (x 0) k)) (w (ix2 0 (x 1))) s (x 1) := by
  unfold Cert.Norm.code Cert.Norm.meanSq
  pointwise [k0_pay2]

/-- The plain codes: at each element the code of its row. -/
theorem REF2_eq (so ws s2 : EReal) (O : FVec Ideal S4608x4096 .fp8e4m3) (X : FVec Ideal S4608x5120 .bf16)
    (L : FVec Ideal S1x5120 .f32) (W : FVec Ideal S4096x5120 .fp8e4m3) (j : S4608x5120.Idx) :
    REF2 so ws s2 O X L W j = Cert.Norm.code (fun k => REF1 so ws O X W (ix2 (j 0) k)) (L (ix2 0 (j 1))) s2 (j 1) := by
  refine Eq.trans ?_ (Cert.Norm.codeDiv_eq _ _ _ _)
  unfold Cert.Norm.codeDiv Cert.Norm.meanSq REF2 REF1 Cert.OProjRefIdeal.Gen.k0_pay2
  generalize Cert.OProjRefIdeal.Gen.k0_pay1 (F := Ideal) X O W so ws = H
  pointwise

/-- The rows of a norm trip start at 32 times its number. -/
theorem off1 : ∀ k : Fin k0_t1_loop.trips, k0_off1 k = ![32 * k.val, 0] := by decide +kernel

/-- What one norm trip stores: the codes of its 32 rows. -/
theorem trip_list (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S256x4096 .fp8e4m3) (harg4 : arg4.IsWhole) (arg5 : Memref sig .tc .vmem S256x5120 .bf16) (harg5 : arg5.IsWhole) (arg6 : Memref sig .tc .vmem S1x5120 .f32) (harg6 : arg6.IsWhole) (arg7 : Memref sig .tc .vmem S4096x5120 .fp8e4m3) (harg7 : arg7.IsWhole) (arg8 : Memref sig .tc .vmem S256x5120 .f32) (harg8 : arg8.IsWhole) (arg9 : Memref sig .tc .vmem S256x5120 .fp8e4m3) (harg9 : arg9.IsWhole) (v241 : Elt Ideal .f32) (X6 : BufTy.Contents (Elt Ideal) arg6.view.ty) (X8 : BufTy.Contents (Elt Ideal) arg8.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 v241 X6 X8 k
      = [⟨Rect.unit (s := S256x5120) (k0_off1 k) S32x5120.size (k0_off1_inb k),
          k0_pay2 (F := Ideal) v241
            (arg8.view.readAt (Elt Ideal) (Rect.unit (s := S256x5120) (k0_off1 k) S32x5120.size (k0_off1_inb k)).toLoadRect X8)
            (arg6.view.readAt (Elt Ideal) (Rect.unit (s := S1x5120) ![0, 0] S1x5120.size inb_S1x5120_S1x5120_0_0).toLoadRect X6)⟩] := by
  unfold tripL_k0_t1 trip_k0_t1
  rfl

/-- If every trip stores a block of `G`, every piece of the first `n` trips is a block of `G`, and they hold the piece of each of those trips. -/
theorem trips_pieces (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S256x4096 .fp8e4m3) (harg4 : arg4.IsWhole) (arg5 : Memref sig .tc .vmem S256x5120 .bf16) (harg5 : arg5.IsWhole) (arg6 : Memref sig .tc .vmem S1x5120 .f32) (harg6 : arg6.IsWhole) (arg7 : Memref sig .tc .vmem S4096x5120 .fp8e4m3) (harg7 : arg7.IsWhole) (arg8 : Memref sig .tc .vmem S256x5120 .f32) (harg8 : arg8.IsWhole) (arg9 : Memref sig .tc .vmem S256x5120 .fp8e4m3) (harg9 : arg9.IsWhole) (v241 : Elt Ideal .f32) (X6 : BufTy.Contents (Elt Ideal) arg6.view.ty) (X8 : BufTy.Contents (Elt Ideal) arg8.view.ty) (G : S256x5120.Idx → EReal)
    (hG : ∀ (k : Fin k0_t1_loop.trips) (x : S32x5120.Idx), k0_pay2 (F := Ideal) v241
            (arg8.view.readAt (Elt Ideal) (Rect.unit (s := S256x5120) (k0_off1 k) S32x5120.size (k0_off1_inb k)).toLoadRect X8)
            (arg6.view.readAt (Elt Ideal) (Rect.unit (s := S1x5120) ![0, 0] S1x5120.size inb_S1x5120_S1x5120_0_0).toLoadRect X6) x
          = G ((Rect.unit (s := S256x5120) (k0_off1 k) S32x5120.size (k0_off1_inb k)).emb x)) :
    ∀ n : ℕ, n ≤ k0_t1_loop.trips →
      (∀ p ∈ pb_k0_t1 (F := Ideal) 𝒱 c bd i arg1 harg1 arg2 harg2 arg3 harg3 arg4 harg4 arg5 harg5 arg6 harg6 arg7 harg7 arg8 harg8 arg9 harg9 v241 X6 X8 n, ∀ x : p.1.shape.Idx, p.2 x = G (p.1.emb x))
      ∧ ∀ k : Fin k0_t1_loop.trips, k.val < n → ∃ p ∈ pb_k0_t1 (F := Ideal) 𝒱 c bd i arg1 harg1 arg2 harg2 arg3 harg3 arg4 harg4 arg5 harg5 arg6 harg6 arg7 harg7 arg8 harg8 arg9 harg9 v241 X6 X8 n,
          p.1 = Rect.unit (s := S256x5120) (k0_off1 k) S32x5120.size (k0_off1_inb k)
  | 0, _ => ⟨fun p hp => absurd hp List.not_mem_nil, fun k hk => absurd hk (Nat.not_lt_zero _)⟩
  | n + 1, hn => by
    obtain ⟨h1, h2⟩ := trips_pieces 𝒱 c bd i arg1 harg1 arg2 harg2 arg3 harg3 arg4 harg4 arg5 harg5 arg6 harg6 arg7 harg7 arg8 harg8 arg9 harg9 v241 X6 X8 G hG n (by omega)
    rw [pb_k0_t1_succ (F := Ideal) 𝒱 c bd i arg1 harg1 arg2 harg2 arg3 harg3 arg4 harg4 arg5 harg5 arg6 harg6 arg7 harg7 arg8 harg8 arg9 harg9 v241 X6 X8 ⟨n, hn⟩, trip_list]
    refine ⟨fun p hp => ?_, fun k hk => ?_⟩
    · rcases List.mem_append.mp hp with hp | hp
      · obtain rfl := List.mem_singleton.mp hp
        exact fun x => hG ⟨n, hn⟩ x
      · exact h1 p hp
    · rcases Nat.lt_succ_iff_lt_or_eq.mp hk with hk | hk
      · obtain ⟨p, hp, e⟩ := h2 k hk
        exact ⟨p, List.mem_append.mpr (Or.inr hp), e⟩
      · obtain rfl : k = ⟨n, hn⟩ := Fin.ext hk
        exact ⟨_, List.mem_append.mpr (Or.inl (List.mem_singleton_self _)), rfl⟩

/-- So after all the trips the buffer holds `G`. -/
theorem trips_canon (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S256x4096 .fp8e4m3) (harg4 : arg4.IsWhole) (arg5 : Memref sig .tc .vmem S256x5120 .bf16) (harg5 : arg5.IsWhole) (arg6 : Memref sig .tc .vmem S1x5120 .f32) (harg6 : arg6.IsWhole) (arg7 : Memref sig .tc .vmem S4096x5120 .fp8e4m3) (harg7 : arg7.IsWhole) (arg8 : Memref sig .tc .vmem S256x5120 .f32) (harg8 : arg8.IsWhole) (arg9 : Memref sig .tc .vmem S256x5120 .fp8e4m3) (harg9 : arg9.IsWhole) (v241 : Elt Ideal .f32) (X6 : BufTy.Contents (Elt Ideal) arg6.view.ty) (X8 : BufTy.Contents (Elt Ideal) arg8.view.ty) (G : S256x5120.Idx → EReal)
    (hG : ∀ (k : Fin k0_t1_loop.trips) (x : S32x5120.Idx), k0_pay2 (F := Ideal) v241
            (arg8.view.readAt (Elt Ideal) (Rect.unit (s := S256x5120) (k0_off1 k) S32x5120.size (k0_off1_inb k)).toLoadRect X8)
            (arg6.view.readAt (Elt Ideal) (Rect.unit (s := S1x5120) ![0, 0] S1x5120.size inb_S1x5120_S1x5120_0_0).toLoadRect X6) x
          = G ((Rect.unit (s := S256x5120) (k0_off1 k) S32x5120.size (k0_off1_inb k)).emb x)) (y : S256x5120.Idx) :
    View.canon (pb_k0_t1 (F := Ideal) 𝒱 c bd i arg1 harg1 arg2 harg2 arg3 harg3 arg4 harg4 arg5 harg5 arg6 harg6 arg7 harg7 arg8 harg8 arg9 harg9 v241 X6 X8 k0_t1_loop.trips) y = G y := by
  obtain ⟨h1, h2⟩ := trips_pieces 𝒱 c bd i arg1 harg1 arg2 harg2 arg3 harg3 arg4 harg4 arg5 harg5 arg6 harg6 arg7 harg7 arg8 harg8 arg9 harg9 v241 X6 X8 G hG _ le_rfl
  refine View.canon_apply_of_pieces (Val := Elt Ideal) (e := .fp8e4m3) G _ h1 y ?_
  have e : k0_t1_loop.trips = 8 := by decide +kernel
  have hy := (y 0).isLt
  have hy1 := (y 1).isLt
  change (y 0).val < 256 at hy
  change (y 1).val < 5120 at hy1
  have hk : (y 0).val / 32 < k0_t1_loop.trips := by omega
  obtain ⟨p, hp, e1⟩ := h2 ⟨(y 0).val / 32, hk⟩ hk
  refine ⟨p, hp, ?_⟩
  rw [e1]
  refine Rect.mem_set_unit.mpr fun a => ?_
  rw [off1]
  fin_cases a
  · exact ⟨by show 32 * ((y 0).val / 32) ≤ (y 0).val; omega, by show (y 0).val < 32 * ((y 0).val / 32) + 32; omega⟩
  · exact ⟨Nat.zero_le _, by show (y 1).val < 0 + 5120; omega⟩

set_option maxHeartbeats 1000000 in
/-- The first result array is the plain mathematics, whole. -/
theorem final7 (c : Dev nD) : (dats m 0 c).arrAt 7 (cfgs 0).N
    = REF1 (m ((c : Thread nD τ).loc main_arg0) ValueIdx.ix0) (m ((c : Thread nD τ).loc main_arg1) ValueIdx.ix0)
        (m ((c : Thread nD τ).loc main_arg3)) (m ((c : Thread nD τ).loc main_arg4)) (m ((c : Thread nD τ).loc main_arg6)) := by
  refine (dats m 0 c).arrAt_eq_of_covers 7 _ (by decide +kernel) fun t _ y => ?_
  blk_simp
  rw [after0_7]
  unfold outsAt0
  frame_out
  refine Eq.trans (b := mid (iblk m c 0 t) (iblk m c 1 t) (iblk m c 3 t) (iblk m c 4 t) (iblk m c 6 t) (y 0) (y 1)) ?_ (core m c t (y 0) (y 1) _ ?_ ?_)
  · canon_tiles x h
    all_goals (open_payloads; pointwise; unfold mid; blk_point)
  all_goals (blk_simp [idx t] <;> try omega)

set_option maxHeartbeats 1000000 in
/-- The second result array is the codes of the first one's normalised rows, whole. -/
theorem final8 (c : Dev nD) : (dats m 0 c).arrAt 8 (cfgs 0).N
    = REF2 (m ((c : Thread nD τ).loc main_arg0) ValueIdx.ix0) (m ((c : Thread nD τ).loc main_arg1) ValueIdx.ix0) (m ((c : Thread nD τ).loc main_arg2) ValueIdx.ix0)
        (m ((c : Thread nD τ).loc main_arg3)) (m ((c : Thread nD τ).loc main_arg4))
        (shapeCast S1x5120 (m ((c : Thread nD τ).loc main_arg5)) shapeCasts_S5120_S1x5120) (m ((c : Thread nD τ).loc main_arg6)) := by
  refine (dats m 0 c).arrAt_eq_of_covers 8 _ (by decide +kernel) fun t _ y => ?_
  blk_simp
  rw [after0_8]
  unfold outsAt0
  frame_out
  refine (trips_canon Variants.none c none (grid0.coords t) _ _ _ _ _ _ _ _ _ _ _ _ _ _ _ _ _ _ _ _ _ (fun y => REF2 (m ((c : Thread nD τ).loc main_arg0) ValueIdx.ix0) (m ((c : Thread nD τ).loc main_arg1) ValueIdx.ix0) (m ((c : Thread nD τ).loc main_arg2) ValueIdx.ix0)
        (m ((c : Thread nD τ).loc main_arg3)) (m ((c : Thread nD τ).loc main_arg4))
        (shapeCast S1x5120 (m ((c : Thread nD τ).loc main_arg5)) shapeCasts_S5120_S1x5120) (m ((c : Thread nD τ).loc main_arg6)) (((View.whole main_v4_1).slice (win0_8.rect t)).emb y)) ?_ y).trans ?_
  · intro k x
    rw [pay2_eq, REF2_eq]
    refine Cert.Norm.code_congr (fun q => ?_) ?_ ?_ ?_
    · rw [View.readAt_writes_junk_eq_canon]
      beta_reduce
      generalize hz : (Rect.toLoadRect _).idx _ = z
      refine Eq.trans (b := mid (iblk m c 0 t) (iblk m c 1 t) (iblk m c 3 t) (iblk m c 4 t) (iblk m c 6 t) (z 0) (z 1)) ?_ (core m c t (z 0) (z 1) _ ?_ ?_)
      · clear hz
        canon_tiles x h
        all_goals (open_payloads; pointwise; unfold mid; blk_point)
      · subst hz
        blk_simp [idx t, off1]
        rw [Rect.idx_unit_val, congrFun (off1 k) 0]
        rfl
      · subst hz
        blk_simp [idx t, off1]
        rw [Rect.idx_unit_val, congrFun (off1 k) 1]
        simp
    · rw [Memref.IsWhole.readAt_unread]
      blk_simp [iblk, V, idx t]
      blk_point [iblk, V, idx t]
      rw [Rect.idx_unit_val, congrFun (off1 k) 1]
      simp
    · pointwise [iblk, V]
      blk_point [iblk, V, idx t]
    · refine Fin.ext ?_
      blk_simp [idx t, off1]
  · rfl

end Cert.OProjIdeal.Value

end
-- ==== Proof.OProjRef.lean ====
module

public import proofs.«01_k».proof.Proof.Gen.OProjRefIdeal.Frame
public import proofs.«01_k».proof.Proof.Norm
public import Idealize.ShloMosaic.Lib.Pipeline.ValueKit
public import Idealize.ShloMosaic.Lib.Pointwise
public import Idealize.ShloMosaic.Lib.Pipeline.ReadBack
public import Idealize.ShloMosaic.Lib.Claim

/-! What the output projection's reference leaves in its result arrays. -/

@[expose] public section

set_option maxRecDepth 16384

noncomputable section

open Idealize.ShloMosaic Idealize.ShloMosaic.TcCoe Idealize.SL.Sem
open Idealize.ShloMosaic.Pipeline (Dat)

namespace Cert.OProjRefIdeal.Value

open Cert.OProjRefIdeal Cert.OProjRefIdeal.Gen

variable (m : (ℓ : Loc nD τ sig) → Buf (Elt Ideal) ℓ)

/-- Every block is its whole array. -/
theorem idx : win0_0.index t0_0 = ![0] ∧ win0_1.index t0_0 = ![0] ∧ win0_2.index t0_0 = ![0]
    ∧ win0_3.index t0_0 = ![0, 0] ∧ win0_4.index t0_0 = ![0, 0] ∧ win0_5.index t0_0 = ![0, 0] ∧ win0_6.index t0_0 = ![0, 0] := by decide +kernel

/-- The codes, one by one: at each element the code of its normalised row. -/
theorem pay2_eq (so ws s2 : EReal) (O : FVec Ideal S4608x4096 .fp8e4m3) (X : FVec Ideal S4608x5120 .bf16)
    (L : FVec Ideal S1x5120 .f32) (W : FVec Ideal S4096x5120 .fp8e4m3) (j : S4608x5120.Idx) :
    k0_pay2 (F := Ideal) X O W so ws L s2 j
      = Cert.Norm.code (fun k => k0_pay1 (F := Ideal) X O W so ws (ix2 (j 0) k)) (L (ix2 0 (j 1))) s2 (j 1) := by
  refine Eq.trans ?_ (Cert.Norm.codeDiv_eq _ _ _ _)
  unfold Cert.Norm.codeDiv Cert.Norm.meanSq k0_pay2
  generalize k0_pay1 (F := Ideal) X O W so ws = H
  pointwise

/-- The reference's first result array is its payload over its argument arrays. -/
theorem final7 (c : Dev nD) : (dats m 0 c).arrAt 7 (cfgs 0).N
    = k0_pay1 (F := Ideal) (m ((c : Thread nD τ).loc main_arg4)) (m ((c : Thread nD τ).loc main_arg3)) (m ((c : Thread nD τ).loc main_arg6))
        (m ((c : Thread nD τ).loc main_arg0) ValueIdx.ix0) (m ((c : Thread nD τ).loc main_arg1) ValueIdx.ix0) := by
  refine (dats m 0 c).arrAt_eq_of_after_last 7 t0_0 (by decide +kernel) _ fun j => ?_
  blk_simp
  rw [after0_7]
  unfold outsAt0
  frame_out
  simp only [read_unread_whole]
  pointwise [k0_pay1]
  blk_point [iblk, V, idx]

/-- The reference's second result array is its payload over its argument arrays. -/
theorem final8 (c : Dev nD) : (dats m 0 c).arrAt 8 (cfgs 0).N
    = k0_pay2 (F := Ideal) (m ((c : Thread nD τ).loc main_arg4)) (m ((c : Thread nD τ).loc main_arg3)) (m ((c : Thread nD τ).loc main_arg6))
        (m ((c : Thread nD τ).loc main_arg0) ValueIdx.ix0) (m ((c : Thread nD τ).loc main_arg1) ValueIdx.ix0)
        (shapeCast S1x5120 (m ((c : Thread nD τ).loc main_arg5)) shapeCasts_S5120_S1x5120) (m ((c : Thread nD τ).loc main_arg2) ValueIdx.ix0) := by
  refine (dats m 0 c).arrAt_eq_of_after_last 8 t0_0 (by decide +kernel) _ fun j => ?_
  blk_simp
  rw [after0_8]
  unfold outsAt0
  frame_out
  simp only [read_unread_whole]
  rw [pay2_eq, pay2_eq]
  refine Cert.Norm.code_congr (fun k => ?_) ?_ ?_ rfl
  · pointwise [k0_pay1]
    blk_point [iblk, V, idx]
  · blk_point [iblk, V, idx]
  · blk_point [iblk, V, idx]

end Cert.OProjRefIdeal.Value

end
-- ==== Proof.OProjEq.lean ====
module

public import proofs.«01_k».proof.Defs
public import proofs.«01_k».proof.Proof.OProjKernel
public import proofs.«01_k».proof.Proof.OProjRef

/-! The output projection: kernel and reference leave the same arrays. -/

@[expose] public section

set_option maxRecDepth 16384

noncomputable section

open Idealize.ShloMosaic Idealize.ShloMosaic.TcCoe Idealize.SL.Sem

namespace Cert.OProjEq

set_option maxHeartbeats 1000000 in
/-- Over the extended reals, from arguments that agree, the kernel and the reference of the output projection both run to the end
    and leave equal result arrays and their arguments unchanged. -/
theorem algebraic : Cert.algebraic_OProjIdeal_OProjRefIdeal := by
  pair_intro
  · run_from Cert.OProjIdeal.Gen.run_main m g
  · run_from Cert.OProjRefIdeal.Gen.run_main m' g'
    · obtain ⟨h0, h1, h2, h3, h4, h5, h6⟩ := hagree c
      refine (Cert.OProjRefIdeal.Value.final7 m' c).trans (Eq.trans ?_ (Cert.OProjIdeal.Value.final7 m c).symm)
      rw [h0, h1, h3, h4, h6]
    · obtain ⟨h0, h1, h2, h3, h4, h5, h6⟩ := hagree c
      refine (Cert.OProjRefIdeal.Value.final8 m' c).trans (Eq.trans ?_ (Cert.OProjIdeal.Value.final8 m c).symm)
      rw [h0, h1, h2, h3, h4, h5, h6]

end Cert.OProjEq

end
-- ==== Proof.Rope.lean ====
module

public import proofs.«01_k».proof.Proof.Norm

/-! The rotation of a head by the angles of its position, in the two forms it is computed in. -/

@[expose] public section

noncomputable section

open Idealize.ShloMosaic

namespace Cert.Rope

/-- One lane of a rotated head over its scale, within the format's range: the two halves are rotated as a pair. -/
def head (A : Fin 128 → EReal) (C S : Fin 64 → EReal) (sq : EReal) (d : Fin 128) : EReal :=
  min (Ideal.ofBits FTy.f32 1138753536#32) (max (Ideal.ofBits FTy.f32 3286237184#32)
    (Ideal.div (if h : d.val < 64 then A ⟨d.val, d.isLt⟩ * C ⟨d.val, h⟩ - A ⟨64 + d.val, by omega⟩ * S ⟨d.val, h⟩
      else A ⟨64 + (d.val - 64), by omega⟩ * C ⟨d.val - 64, by omega⟩ + A ⟨d.val - 64, by omega⟩ * S ⟨d.val - 64, by omega⟩) sq))

/-- The same lane, from the lane itself and the lane half a head away. -/
def headRoll (A : Fin 128 → EReal) (C S : Fin 64 → EReal) (sq : EReal) (d : Fin 128) : EReal :=
  min (Ideal.ofBits FTy.f32 1138753536#32) (max (Ideal.ofBits FTy.f32 3286237184#32)
    (Ideal.div (A d * (if h : d.val < 64 then C ⟨d.val, h⟩ else C ⟨d.val - 64, by omega⟩)
      + A ⟨(d.val + 128 - 64) % 128, by omega⟩ * (if h : d.val < 64 then 0 - S ⟨d.val, h⟩ else S ⟨d.val - 64, by omega⟩)) sq))

/-- The two forms agree. -/
theorem headRoll_eq (A : Fin 128 → EReal) (C S : Fin 64 → EReal) (sq : EReal) (d : Fin 128) : headRoll A C S sq d = head A C S sq d := by
  unfold headRoll head
  by_cases h : d.val < 64
  · simp only [dif_pos h]
    have e : (⟨(d.val + 128 - 64) % 128, by omega⟩ : Fin 128) = ⟨64 + d.val, by omega⟩ := Fin.ext (by show (d.val + 128 - 64) % 128 = 64 + d.val; omega)
    rw [e, zero_sub, mul_neg, ← sub_eq_add_neg]
  · simp only [dif_neg h]
    have e : (⟨(d.val + 128 - 64) % 128, by omega⟩ : Fin 128) = ⟨d.val - 64, by omega⟩ := Fin.ext (by show (d.val + 128 - 64) % 128 = d.val - 64; omega)
    have e2 : (⟨64 + (d.val - 64), by omega⟩ : Fin 128) = d := Fin.ext (by show 64 + (d.val - 64) = d.val; omega)
    rw [e, e2]

/-- One code of a query: the row's query head, rotated by the angles of its position, over that head's scale, within the format's range. -/
def qRow (a : Fin 5120 → EReal) (W : Fin 5120 → Fin 6144 → EReal) (s w : EReal) (C S : Fin 64 → EReal) (SQ : Fin 32 → EReal) (q : Fin 4096) : EReal :=
  head (fun d => (∑ k, a k * W k ⟨(q.val / 128 * 128 + d.val), by omega⟩) * s * w) C S (SQ ⟨q.val / 128, by omega⟩) ⟨q.val % 128, by omega⟩

/-- One code of a key: the row's key head, rotated by the angles of its position, over that head's scale, within the format's range. -/
def kRow (a : Fin 5120 → EReal) (W : Fin 5120 → Fin 6144 → EReal) (s w : EReal) (C S : Fin 64 → EReal) (SQ : Fin 8 → EReal) (q : Fin 1024) : EReal :=
  head (fun d => (∑ k, a k * W k ⟨4096 + (q.val / 128 * 128 + d.val), by omega⟩) * s * w) C S (SQ ⟨q.val / 128, by omega⟩) ⟨q.val % 128, by omega⟩

/-- One code of a value: the row's value over its head's scale, within the format's range. -/
def vRow (a : Fin 5120 → EReal) (W : Fin 5120 → Fin 6144 → EReal) (s w : EReal) (SV : Fin 8 → EReal) (q : Fin 1024) : EReal :=
  min (Ideal.ofBits FTy.f32 1138753536#32) (max (Ideal.ofBits FTy.f32 3286237184#32)
    (Ideal.div ((∑ k, a k * W k ⟨5120 + q.val, by omega⟩) * s * w) (SV ⟨q.val / 128, by omega⟩)))

/-- The row formula depends on nothing but its arguments' values. -/
theorem qRow_congr {a a' : Fin 5120 → EReal} {W W' : Fin 5120 → Fin 6144 → EReal} {s s' w w' : EReal} {C C' S S' : Fin 64 → EReal} {SQ SQ' : Fin 32 → EReal} {q q' : Fin 4096}
    (ha : ∀ k, a k = a' k) (hW : ∀ k n, W k n = W' k n) (hs : s = s') (hw : w = w') (hC : ∀ e, C e = C' e) (hS : ∀ e, S e = S' e) (hSQ : ∀ h, SQ h = SQ' h) (hq : q = q') :
    qRow a W s w C S SQ q = qRow a' W' s' w' C' S' SQ' q' := by
  obtain rfl := funext ha
  obtain rfl := funext fun k => funext (hW k)
  obtain rfl := funext hSQ
  obtain rfl := funext hC
  obtain rfl := funext hS
  subst hs hw hq
  rfl

/-- The row formula depends on nothing but its arguments' values. -/
theorem kRow_congr {a a' : Fin 5120 → EReal} {W W' : Fin 5120 → Fin 6144 → EReal} {s s' w w' : EReal} {C C' S S' : Fin 64 → EReal} {SQ SQ' : Fin 8 → EReal} {q q' : Fin 1024}
    (ha : ∀ k, a k = a' k) (hW : ∀ k n, W k n = W' k n) (hs : s = s') (hw : w = w') (hC : ∀ e, C e = C' e) (hS : ∀ e, S e = S' e) (hSQ : ∀ h, SQ h = SQ' h) (hq : q = q') :
    kRow a W s w C S SQ q = kRow a' W' s' w' C' S' SQ' q' := by
  obtain rfl := funext ha
  obtain rfl := funext fun k => funext (hW k)
  obtain rfl := funext hSQ
  obtain rfl := funext hC
  obtain rfl := funext hS
  subst hs hw hq
  rfl

/-- The row formula depends on nothing but its arguments' values. -/
theorem vRow_congr {a a' : Fin 5120 → EReal} {W W' : Fin 5120 → Fin 6144 → EReal} {s s' w w' : EReal} {SQ SQ' : Fin 8 → EReal} {q q' : Fin 1024}
    (ha : ∀ k, a k = a' k) (hW : ∀ k n, W k n = W' k n) (hs : s = s') (hw : w = w') (hSQ : ∀ h, SQ h = SQ' h) (hq : q = q') :
    vRow a W s w SQ q = vRow a' W' s' w' SQ' q' := by
  obtain rfl := funext ha
  obtain rfl := funext fun k => funext (hW k)
  obtain rfl := funext hSQ
  subst hs hw hq
  rfl

end Cert.Rope

end
-- ==== Proof.QkvNormed.lean ====
module

public import proofs.«01_k».proof.Proof.Gen.QkvIdeal.Frame
public import proofs.«01_k».proof.Proof.Gen.QkvRefIdeal.Skeleton
public import proofs.«01_k».proof.Proof.Norm
public import proofs.«01_k».proof.Proof.Rope
public import Idealize.ShloMosaic.Lib.Pipeline.ValueKit
public import Idealize.ShloMosaic.Lib.Pointwise
public import Idealize.ShloMosaic.Lib.Claim
public import Idealize.ShloMosaic.Lib.WholeRead

/-! What the query, key and value projection's kernel leaves in its first result array. -/

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen

variable (m : (ℓ : Loc nD τ sig) → Buf (Elt Ideal) ℓ)

/-- The windows' block indices at every grid point. -/
theorem idx : ∀ t : Fin cfg0.N, win0_0.index t = ![0] ∧ win0_1.index t = ![0] ∧ win0_2.index t = ![0] ∧ win0_3.index t = ![0]
    ∧ win0_4.index t = ![0] ∧ win0_5.index t = ![t.val, 0] ∧ win0_6.index t = ![t.val, 0] ∧ win0_7.index t = ![t.val, 0]
    ∧ win0_8.index t = ![0, 0] ∧ win0_9.index t = ![0, 0] ∧ win0_10.index t = ![t.val, 0] ∧ win0_11.index t = ![t.val, 0]
    ∧ win0_12.index t = ![t.val, 0] ∧ win0_13.index t = ![t.val, 0] :=
  (by decide +kernel : ∀ t : Fin grid0.N, _)

/-- The codes of the normalised rows of the layer's input, whole. -/
abbrev REFX (s : EReal) (X : FVec Ideal S4608x5120 .bf16) (L : FVec Ideal S1x5120 .f32) : FVec Ideal S4608x5120 .fp8e4m3 :=
  Cert.QkvRefIdeal.Gen.k0_pay3 (F := Ideal) X L s

/-- The codes of the input at the arguments a device starts with. -/
def x1 (c : Dev nD) : FVec Ideal S4608x5120 .fp8e4m3 :=
  REFX (m ((c : Thread nD τ).loc main_arg4) ValueIdx.ix0) (m ((c : Thread nD τ).loc main_arg0))
    (shapeCast S1x5120 (m ((c : Thread nD τ).loc main_arg3)) shapeCasts_S5120_S1x5120)

/-- A norm trip's codes: at each element the code of its row. -/
theorem pay2_eq (s : EReal) (V : FVec Ideal S32x5120 .bf16) (w : FVec Ideal S1x5120 .f32) (x : S32x5120.Idx) :
    k0_pay2 (F := Ideal) s V w x = Cert.Norm.code (fun k => V (ix2 (x 0) k)) (w (ix2 0 (x 1))) s (x 1) := by
  unfold Cert.Norm.code Cert.Norm.meanSq
  pointwise [k0_pay2]

/-- The plain codes: at each element the code of its row. -/
theorem REFX_eq (s : EReal) (X : FVec Ideal S4608x5120 .bf16) (L : FVec Ideal S1x5120 .f32) (j : S4608x5120.Idx) :
    REFX s X L j = Cert.Norm.code (fun k => X (ix2 (j 0) k)) (L (ix2 0 (j 1))) s (j 1) := by
  refine Eq.trans ?_ (Cert.Norm.codeDiv_eq _ _ _ _)
  unfold Cert.Norm.codeDiv Cert.Norm.meanSq REFX
  pointwise [Cert.QkvRefIdeal.Gen.k0_pay3]

/-- The rows of a norm trip start at 32 times its number. -/
theorem off1 : ∀ k : Fin k0_t1_loop.trips, k0_off1 k = ![32 * k.val, 0] := by decide +kernel

/-- What one norm trip stores: the codes of its 32 rows. -/
theorem trip_list (𝒱 : Variants) (c : Dev nD) (bd : Option 𝒱.V) (i : grid0.Coords) (arg1 : Memref sig .tc .smem S1 .f32) (harg1 : arg1.IsWhole) (arg2 : Memref sig .tc .smem S3 .f32) (harg2 : arg2.IsWhole) (arg3 : Memref sig .tc .smem S32 .f32) (harg3 : arg3.IsWhole) (arg4 : Memref sig .tc .smem S8 .f32) (harg4 : arg4.IsWhole) (arg5 : Memref sig .tc .smem S8 .f32) (harg5 : arg5.IsWhole) (arg6 : Memref sig .tc .vmem S256x5120 .bf16) (harg6 : arg6.IsWhole) (arg7 : Memref sig .tc .vmem S256x64 .f32) (harg7 : arg7.IsWhole) (arg8 : Memref sig .tc .vmem S256x64 .f32) (harg8 : arg8.IsWhole) (arg9 : Memref sig .tc .vmem S1x5120 .f32) (harg9 : arg9.IsWhole) (arg10 : Memref sig .tc .vmem S5120x6144 .fp8e4m3) (harg10 : arg10.IsWhole) (arg11 : Memref sig .tc .vmem S256x5120 .fp8e4m3) (harg11 : arg11.IsWhole) (arg12 : Memref sig .tc .vmem S256x4096 .fp8e4m3) (harg12 : arg12.IsWhole) (arg13 : Memref sig .tc .vmem S256x1024 .fp8e4m3) (harg13 : arg13.IsWhole) (arg14 : Memref sig .tc .vmem S256x1024 .fp8e4m3) (harg14 : arg14.IsWhole) (v0 : Elt Ideal .f32) (X6 : BufTy.Contents (Elt Ideal) arg6.view.ty) (X9 : BufTy.Contents (Elt Ideal) arg9.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X6 X9 k
      = [⟨Rect.unit (s := S256x5120) (k0_off1 k) S32x5120.size (k0_off1_inb k),
          k0_pay2 (F := Ideal) v0
            (arg6.view.readAt (Elt Ideal) (Rect.unit (s := S256x5120) (k0_off1 k) S32x5120.size (k0_off1_inb k)).toLoadRect X6)
            (arg9.view.readAt (Elt Ideal) (Rect.unit (s := S1x5120) ![0, 0] S1x5120.size inb_S1x5120_S1x5120_0_0).toLoadRect X9)⟩] := by
  unfold tripL_k0_t1 trip_k0_t1
  rfl

/-- If every trip stores a block of `G`, every piece of the first `n` trips is a block of `G`, and they hold the piece of each of those trips. -/
theorem trips_pieces (𝒱 : Variants) (c : Dev nD) (bd : Option 𝒱.V) (i : grid0.Coords) (arg1 : Memref sig .tc .smem S1 .f32) (harg1 : arg1.IsWhole) (arg2 : Memref sig .tc .smem S3 .f32) (harg2 : arg2.IsWhole) (arg3 : Memref sig .tc .smem S32 .f32) (harg3 : arg3.IsWhole) (arg4 : Memref sig .tc .smem S8 .f32) (harg4 : arg4.IsWhole) (arg5 : Memref sig .tc .smem S8 .f32) (harg5 : arg5.IsWhole) (arg6 : Memref sig .tc .vmem S256x5120 .bf16) (harg6 : arg6.IsWhole) (arg7 : Memref sig .tc .vmem S256x64 .f32) (harg7 : arg7.IsWhole) (arg8 : Memref sig .tc .vmem S256x64 .f32) (harg8 : arg8.IsWhole) (arg9 : Memref sig .tc .vmem S1x5120 .f32) (harg9 : arg9.IsWhole) (arg10 : Memref sig .tc .vmem S5120x6144 .fp8e4m3) (harg10 : arg10.IsWhole) (arg11 : Memref sig .tc .vmem S256x5120 .fp8e4m3) (harg11 : arg11.IsWhole) (arg12 : Memref sig .tc .vmem S256x4096 .fp8e4m3) (harg12 : arg12.IsWhole) (arg13 : Memref sig .tc .vmem S256x1024 .fp8e4m3) (harg13 : arg13.IsWhole) (arg14 : Memref sig .tc .vmem S256x1024 .fp8e4m3) (harg14 : arg14.IsWhole) (v0 : Elt Ideal .f32) (X6 : BufTy.Contents (Elt Ideal) arg6.view.ty) (X9 : BufTy.Contents (Elt Ideal) arg9.view.ty) (G : S256x5120.Idx → EReal)
    (hG : ∀ (k : Fin k0_t1_loop.trips) (x : S32x5120.Idx), k0_pay2 (F := Ideal) v0
            (arg6.view.readAt (Elt Ideal) (Rect.unit (s := S256x5120) (k0_off1 k) S32x5120.size (k0_off1_inb k)).toLoadRect X6)
            (arg9.view.readAt (Elt Ideal) (Rect.unit (s := S1x5120) ![0, 0] S1x5120.size inb_S1x5120_S1x5120_0_0).toLoadRect X9) x
          = G ((Rect.unit (s := S256x5120) (k0_off1 k) S32x5120.size (k0_off1_inb k)).emb x)) :
    ∀ n : ℕ, n ≤ k0_t1_loop.trips →
      (∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X6 X9 n, ∀ x : p.1.shape.Idx, p.2 x = G (p.1.emb x))
      ∧ ∀ k : Fin k0_t1_loop.trips, k.val < n → ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X6 X9 n,
          p.1 = Rect.unit (s := S256x5120) (k0_off1 k) S32x5120.size (k0_off1_inb k)
  | 0, _ => ⟨fun p hp => absurd hp List.not_mem_nil, fun k hk => absurd hk (Nat.not_lt_zero _)⟩
  | n + 1, hn => by
    obtain ⟨h1, h2⟩ := trips_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X6 X9 G hG n (by omega)
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X6 X9 ⟨n, hn⟩, trip_list]
    refine ⟨fun p hp => ?_, fun k hk => ?_⟩
    · rcases List.mem_append.mp hp with hp | hp
      · obtain rfl := List.mem_singleton.mp hp
        exact fun x => hG ⟨n, hn⟩ x
      · exact h1 p hp
    · rcases Nat.lt_succ_iff_lt_or_eq.mp hk with hk | hk
      · obtain ⟨p, hp, e⟩ := h2 k hk
        exact ⟨p, List.mem_append.mpr (Or.inr hp), e⟩
      · obtain rfl : k = ⟨n, hn⟩ := Fin.ext hk
        exact ⟨_, List.mem_append.mpr (Or.inl (List.mem_singleton_self _)), rfl⟩

/-- So after all the trips the buffer holds `G`. -/
theorem trips_canon (𝒱 : Variants) (c : Dev nD) (bd : Option 𝒱.V) (i : grid0.Coords) (arg1 : Memref sig .tc .smem S1 .f32) (harg1 : arg1.IsWhole) (arg2 : Memref sig .tc .smem S3 .f32) (harg2 : arg2.IsWhole) (arg3 : Memref sig .tc .smem S32 .f32) (harg3 : arg3.IsWhole) (arg4 : Memref sig .tc .smem S8 .f32) (harg4 : arg4.IsWhole) (arg5 : Memref sig .tc .smem S8 .f32) (harg5 : arg5.IsWhole) (arg6 : Memref sig .tc .vmem S256x5120 .bf16) (harg6 : arg6.IsWhole) (arg7 : Memref sig .tc .vmem S256x64 .f32) (harg7 : arg7.IsWhole) (arg8 : Memref sig .tc .vmem S256x64 .f32) (harg8 : arg8.IsWhole) (arg9 : Memref sig .tc .vmem S1x5120 .f32) (harg9 : arg9.IsWhole) (arg10 : Memref sig .tc .vmem S5120x6144 .fp8e4m3) (harg10 : arg10.IsWhole) (arg11 : Memref sig .tc .vmem S256x5120 .fp8e4m3) (harg11 : arg11.IsWhole) (arg12 : Memref sig .tc .vmem S256x4096 .fp8e4m3) (harg12 : arg12.IsWhole) (arg13 : Memref sig .tc .vmem S256x1024 .fp8e4m3) (harg13 : arg13.IsWhole) (arg14 : Memref sig .tc .vmem S256x1024 .fp8e4m3) (harg14 : arg14.IsWhole) (v0 : Elt Ideal .f32) (X6 : BufTy.Contents (Elt Ideal) arg6.view.ty) (X9 : BufTy.Contents (Elt Ideal) arg9.view.ty) (G : S256x5120.Idx → EReal)
    (hG : ∀ (k : Fin k0_t1_loop.trips) (x : S32x5120.Idx), k0_pay2 (F := Ideal) v0
            (arg6.view.readAt (Elt Ideal) (Rect.unit (s := S256x5120) (k0_off1 k) S32x5120.size (k0_off1_inb k)).toLoadRect X6)
            (arg9.view.readAt (Elt Ideal) (Rect.unit (s := S1x5120) ![0, 0] S1x5120.size inb_S1x5120_S1x5120_0_0).toLoadRect X9) x
          = G ((Rect.unit (s := S256x5120) (k0_off1 k) S32x5120.size (k0_off1_inb k)).emb x)) (y : S256x5120.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X6 X9 k0_t1_loop.trips) y = G y := by
  obtain ⟨h1, h2⟩ := trips_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X6 X9 G hG _ le_rfl
  refine View.canon_apply_of_pieces (Val := Elt Ideal) (e := .fp8e4m3) G _ h1 y ?_
  have e : k0_t1_loop.trips = 8 := by decide +kernel
  have hy := (y 0).isLt
  have hy1 := (y 1).isLt
  change (y 0).val < 256 at hy
  change (y 1).val < 5120 at hy1
  have hk : (y 0).val / 32 < k0_t1_loop.trips := by omega
  obtain ⟨p, hp, e1⟩ := h2 ⟨(y 0).val / 32, hk⟩ hk
  refine ⟨p, hp, ?_⟩
  rw [e1]
  refine Rect.mem_set_unit.mpr fun a => ?_
  rw [off1]
  fin_cases a
  · exact ⟨by show 32 * ((y 0).val / 32) ≤ (y 0).val; omega, by show (y 0).val < 32 * ((y 0).val / 32) + 32; omega⟩
  · exact ⟨Nat.zero_le _, by show (y 1).val < 0 + 5120; omega⟩

/-- After its trips the first result's block holds the codes of the rows it stands for. -/
theorem x1_block (c : Dev nD) (t : Fin cfg0.N) (y : S256x5120.Idx) :
    View.canon (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
        (View.ld (iblk m c 0 t) (Rect.unit (s := S1) ![0] ![1] inb_S1_S1_0) (Shape.Idx.first (lt_of_lt_of_eq Nat.one_pos (by rfl)))) ((hs0_5 t).unread (iblk m c 5 t))
        ((hs0_8 t).unread (iblk m c 8 t)) k0_t1_loop.trips) y
      = x1 m c (((View.whole main_v2_0).slice (win0_10.rect t)).emb y) := by
  refine (trips_canon Variants.none c none (grid0.coords t) _ _ _ _ _ _ _ _ _ _ _ _ _ _ _ _ _ _ _ _ _ _ _ _ _ _ _ _ _ _ _ (fun y => x1 m c (((View.whole main_v2_0).slice (win0_10.rect t)).emb y)) ?_ y)
  intro k x
  unfold x1
  rw [pay2_eq, REFX_eq]
  refine Cert.Norm.code_congr (fun q => ?_) ?_ ?_ ?_
  · rw [Memref.IsWhole.readAt_unread]
    blk_simp [iblk, V, idx t]
    blk_point [iblk, V, idx t]
    rw [Rect.idx_unit_val, congrFun (off1 k) 0]
    · simp
    · rw [Rect.idx_unit_val, congrFun (off1 k) 1]
      simp
  · rw [Memref.IsWhole.readAt_unread]
    blk_simp [iblk, V, idx t]
    blk_point [iblk, V, idx t]
    rw [Rect.idx_unit_val, congrFun (off1 k) 1]
    simp
  · pointwise [iblk, V]
    blk_point [iblk, V, idx t]
  · refine Fin.ext ?_
    blk_simp [idx t, off1]

/-- The first result array is the codes of the normalised input, whole. -/
theorem final10 (c : Dev nD) : (dats m 0 c).arrAt 10 (cfgs 0).N = x1 m c := by
  refine (dats m 0 c).arrAt_eq_of_covers 10 _ (by decide +kernel) fun t _ y => ?_
  blk_simp
  rw [after0_10]
  unfold outsAt0
  frame_out
  exact x1_block m c t y

/-- The block of those codes at a grid point. -/
def x1b (c : Dev nD) (t : Fin cfg0.N) : FVec Ideal S256x5120 .fp8e4m3 := fun y => x1 m c (((View.whole main_v2_0).slice (win0_10.rect t)).emb y)

/-- So a read of the whole block gives those codes. -/
theorem x1_read (c : Dev nD) (t : Fin cfg0.N) :
    k0_pay5 (F := Ideal) ((ms0_10 t).view.readCov (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
        (View.ld (iblk m c 0 t) (Rect.unit (s := S1) ![0] ![1] inb_S1_S1_0) (Shape.Idx.first (lt_of_lt_of_eq Nat.one_pos (by rfl)))) ((hs0_5 t).unread (iblk m c 5 t))
        ((hs0_8 t).unread (iblk m c 8 t)) (Scf.trips (0#32) (Scalar.addi 0#32 8#32) 1#32))
        (Rect.unit (s := S256x5120) ![0, 0] ![256, 5120] inb_S256x5120_S256x5120_0_0).toLoadRect)
      = x1b m c t := by
  funext y
  unfold k0_pay5
  rw [View.readCov_eq_canon']
  pointwise
  exact x1_block m c t y

/-- The normalised rows as the first two query heads read them: the tile the loop filled, read back whole. -/
theorem x1_raw (c : Dev nD) (t : Fin cfg0.N) :
    (ms0_10 t).view.readCov (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
        (View.ld (iblk m c 0 t) (Rect.unit (s := S1) ![0] ![1] inb_S1_S1_0) (Shape.Idx.first (lt_of_lt_of_eq Nat.one_pos (by rfl)))) ((hs0_5 t).unread (iblk m c 5 t))
        ((hs0_8 t).unread (iblk m c 8 t)) (Scf.trips (0#32) (Scalar.addi 0#32 8#32) 1#32))
        (Rect.unit (s := S256x5120) ![0, 0] ![256, 5120] inb_S256x5120_S256x5120_0_0).toLoadRect
      = x1b m c t := by
  funext y
  rw [View.readCov_eq_canon']
  pointwise
  exact x1_block m c t y

end Cert.QkvIdeal.Value

end
-- ==== Proof.QkvQ.lean ====
module

public import proofs.«01_k».proof.Proof.Gen.QkvIdeal.Frame
public import proofs.«01_k».proof.Proof.Gen.QkvRefIdeal.Skeleton
public import proofs.«01_k».proof.Proof.QkvNormed
public import proofs.«01_k».proof.Proof.Rope
public import Idealize.ShloMosaic.Lib.Pipeline.ValueKit
public import Idealize.ShloMosaic.Lib.Pointwise
public import Idealize.ShloMosaic.Lib.Claim

/-! What the query, key and value projection's kernel leaves in its second result array. -/

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen

variable (m : (ℓ : Loc nD τ sig) → Buf (Elt Ideal) ℓ)

/-- One tile's element is the row formula at its row and column. -/
theorem q_tile (X1 : S256x5120.Idx → EReal) (W : S5120x6144.Idx → EReal) (C S : S256x64.Idx → EReal) (SQ : (⟨1, ![32]⟩ : Shape).Idx → EReal) (s w : EReal)
    (i i' : Fin 256) (d : Fin 128) (q : Fin 4096) (g : Fin 32) (p p' : ℕ) (hp : p < 6144) (hp' : p' < 6144) (hi : i'.val = i.val)
    (hd : q.val % 128 = d.val) (hg : q.val / 128 = g.val) (e : p = (q.val / 128 * 128 + d.val))
    (e' : p' = (q.val / 128 * 128 + (d.val + 128 - 64) % 128)) :
    min (Ideal.ofBits FTy.f32 1138753536#32) (max (Ideal.ofBits FTy.f32 3286237184#32)
        (Ideal.div ((∑ k, X1 (ix2 i k) * W (ix2 k ⟨p, hp⟩)) * s * w * (if h : d.val < 64 then C (ix2 i ⟨d.val, h⟩) else C (ix2 i ⟨d.val - 64, by omega⟩))
          + (∑ k, X1 (ix2 i k) * W (ix2 k ⟨p', hp'⟩)) * s * w * (if h : d.val < 64 then 0 - S (ix2 i ⟨d.val, h⟩) else S (ix2 i ⟨d.val - 64, by omega⟩)))
          (SQ (ix1 g))))
      = Cert.Rope.qRow (fun k => X1 (ix2 i' k)) (fun k n => W (ix2 k n)) s w (fun e => C (ix2 i' e)) (fun e => S (ix2 i' e)) (fun h => SQ (ix1 h)) q := by
  obtain rfl : i' = i := Fin.ext hi
  obtain rfl : (⟨q.val / 128, Nat.div_lt_of_lt_mul q.isLt⟩ : Fin 32) = g := Fin.ext hg
  obtain rfl : (⟨q.val % 128, Nat.mod_lt _ (by decide)⟩ : Fin 128) = d := Fin.ext hd
  subst e e'
  exact Cert.Rope.headRoll_eq (fun d => (∑ k, X1 (ix2 i' k) * W (ix2 k ⟨(q.val / 128 * 128 + d.val), by omega⟩)) * s * w)
    (fun e => C (ix2 i' e)) (fun e => S (ix2 i' e)) (SQ (ix1 ⟨q.val / 128, by omega⟩)) ⟨q.val % 128, by omega⟩

set_option maxHeartbeats 4000000 in
/-- The second result array is the query codes, whole. -/
theorem final11 (c : Dev nD) : (dats m 0 c).arrAt 11 (cfgs 0).N
    = fun j => Cert.Rope.qRow (fun k => x1 m c (ix2 (j 0) k)) (fun k n => m ((c : Thread nD τ).loc main_arg5) (ix2 k n)) (m ((c : Thread nD τ).loc main_arg4) ValueIdx.ix0)
        (m ((c : Thread nD τ).loc main_arg6) (ix1 0)) (fun e => m ((c : Thread nD τ).loc main_arg1) (ix2 (j 0) e)) (fun e => m ((c : Thread nD τ).loc main_arg2) (ix2 (j 0) e)) (fun h => m ((c : Thread nD τ).loc main_arg7) (ix1 h)) (j 1) := by
  refine (dats m 0 c).arrAt_eq_of_covers 11 _ (by decide +kernel) fun t _ y => ?_
  blk_simp
  rw [after0_11]
  unfold outsAt0
  frame_out
  rw [x1_read, x1_raw]
  refine Eq.trans (b := Cert.Rope.qRow (fun k => x1b m c t (ix2 (y 0) k)) (fun k n => iblk m c 9 t (ix2 k n)) (iblk m c 0 t (ix1 0)) (iblk m c 1 t (ix1 0))
    (fun e => iblk m c 6 t (ix2 (y 0) e)) (fun e => iblk m c 7 t (ix2 (y 0) e)) (fun h => iblk m c 2 t (ix1 h)) (y 1)) ?_ ?_
  · generalize x1b m c t = X1
    canon_tiles x h
    case piece0 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 31 (3968 + (x 1).val) (3968 + ((x 1).val + 128 - 64) % 128) (by omega) (by omega) h0 (by omega) (show (y 1).val / 128 = 31 by omega) (by omega) (by omega))
    case piece1 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 30 (3840 + (x 1).val) (3840 + ((x 1).val + 128 - 64) % 128) (by omega) (by omega) h0 (by omega) (show (y 1).val / 128 = 30 by omega) (by omega) (by omega))
    case piece2 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 29 (3712 + (x 1).val) (3712 + ((x 1).val + 128 - 64) % 128) (by omega) (by omega) h0 (by omega) (show (y 1).val / 128 = 29 by omega) (by omega) (by omega))
    case piece3 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 28 (3584 + (x 1).val) (3584 + ((x 1).val + 128 - 64) % 128) (by omega) (by omega) h0 (by omega) (show (y 1).val / 128 = 28 by omega) (by omega) (by omega))
    case piece4 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 27 (3456 + (x 1).val) (3456 + ((x 1).val + 128 - 64) % 128) (by omega) (by omega) h0 (by omega) (show (y 1).val / 128 = 27 by omega) (by omega) (by omega))
    case piece5 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 26 (3328 + (x 1).val) (3328 + ((x 1).val + 128 - 64) % 128) (by omega) (by omega) h0 (by omega) (show (y 1).val / 128 = 26 by omega) (by omega) (by omega))
    case piece6 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 25 (3200 + (x 1).val) (3200 + ((x 1).val + 128 - 64) % 128) (by omega) (by omega) h0 (by omega) (show (y 1).val / 128 = 25 by omega) (by omega) (by omega))
    case piece7 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 24 (3072 + (x 1).val) (3072 + ((x 1).val + 128 - 64) % 128) (by omega) (by omega) h0 (by omega) (show (y 1).val / 128 = 24 by omega) (by omega) (by omega))
    case piece8 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 23 (2944 + (x 1).val) (2944 + ((x 1).val + 128 - 64) % 128) (by omega) (by omega) h0 (by omega) (show (y 1).val / 128 = 23 by omega) (by omega) (by omega))
    case piece9 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 22 (2816 + (x 1).val) (2816 + ((x 1).val + 128 - 64) % 128) (by omega) (by omega) h0 (by omega) (show (y 1).val / 128 = 22 by omega) (by omega) (by omega))
    case piece10 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 21 (2688 + (x 1).val) (2688 + ((x 1).val + 128 - 64) % 128) (by omega) (by omega) h0 (by omega) (show (y 1).val / 128 = 21 by omega) (by omega) (by omega))
    case piece11 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 20 (2560 + (x 1).val) (2560 + ((x 1).val + 128 - 64) % 128) (by omega) (by omega) h0 (by omega) (show (y 1).val / 128 = 20 by omega) (by omega) (by omega))
    case piece12 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 19 (2432 + (x 1).val) (2432 + ((x 1).val + 128 - 64) % 128) (by omega) (by omega) h0 (by omega) (show (y 1).val / 128 = 19 by omega) (by omega) (by omega))
    case piece13 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 18 (2304 + (x 1).val) (2304 + ((x 1).val + 128 - 64) % 128) (by omega) (by omega) h0 (by omega) (show (y 1).val / 128 = 18 by omega) (by omega) (by omega))
    case piece14 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 17 (2176 + (x 1).val) (2176 + ((x 1).val + 128 - 64) % 128) (by omega) (by omega) h0 (by omega) (show (y 1).val / 128 = 17 by omega) (by omega) (by omega))
    case piece15 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 16 (2048 + (x 1).val) (2048 + ((x 1).val + 128 - 64) % 128) (by omega) (by omega) h0 (by omega) (show (y 1).val / 128 = 16 by omega) (by omega) (by omega))
    case piece16 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 15 (1920 + (x 1).val) (1920 + ((x 1).val + 128 - 64) % 128) (by omega) (by omega) h0 (by omega) (show (y 1).val / 128 = 15 by omega) (by omega) (by omega))
    case piece17 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 14 (1792 + (x 1).val) (1792 + ((x 1).val + 128 - 64) % 128) (by omega) (by omega) h0 (by omega) (show (y 1).val / 128 = 14 by omega) (by omega) (by omega))
    case piece18 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 13 (1664 + (x 1).val) (1664 + ((x 1).val + 128 - 64) % 128) (by omega) (by omega) h0 (by omega) (show (y 1).val / 128 = 13 by omega) (by omega) (by omega))
    case piece19 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 12 (1536 + (x 1).val) (1536 + ((x 1).val + 128 - 64) % 128) (by omega) (by omega) h0 (by omega) (show (y 1).val / 128 = 12 by omega) (by omega) (by omega))
    case piece20 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 11 (1408 + (x 1).val) (1408 + ((x 1).val + 128 - 64) % 128) (by omega) (by omega) h0 (by omega) (show (y 1).val / 128 = 11 by omega) (by omega) (by omega))
    case piece21 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 10 (1280 + (x 1).val) (1280 + ((x 1).val + 128 - 64) % 128) (by omega) (by omega) h0 (by omega) (show (y 1).val / 128 = 10 by omega) (by omega) (by omega))
    case piece22 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 9 (1152 + (x 1).val) (1152 + ((x 1).val + 128 - 64) % 128) (by omega) (by omega) h0 (by omega) (show (y 1).val / 128 = 9 by omega) (by omega) (by omega))
    case piece23 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 8 (1024 + (x 1).val) (1024 + ((x 1).val + 128 - 64) % 128) (by omega) (by omega) h0 (by omega) (show (y 1).val / 128 = 8 by omega) (by omega) (by omega))
    case piece24 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 7 (896 + (x 1).val) (896 + ((x 1).val + 128 - 64) % 128) (by omega) (by omega) h0 (by omega) (show (y 1).val / 128 = 7 by omega) (by omega) (by omega))
    case piece25 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 6 (768 + (x 1).val) (768 + ((x 1).val + 128 - 64) % 128) (by omega) (by omega) h0 (by omega) (show (y 1).val / 128 = 6 by omega) (by omega) (by omega))
    case piece26 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 5 (640 + (x 1).val) (640 + ((x 1).val + 128 - 64) % 128) (by omega) (by omega) h0 (by omega) (show (y 1).val / 128 = 5 by omega) (by omega) (by omega))
    case piece27 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 4 (512 + (x 1).val) (512 + ((x 1).val + 128 - 64) % 128) (by omega) (by omega) h0 (by omega) (show (y 1).val / 128 = 4 by omega) (by omega) (by omega))
    case piece28 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 3 (384 + (x 1).val) (384 + ((x 1).val + 128 - 64) % 128) (by omega) (by omega) h0 (by omega) (show (y 1).val / 128 = 3 by omega) (by omega) (by omega))
    case piece29 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 2 (256 + (x 1).val) (256 + ((x 1).val + 128 - 64) % 128) (by omega) (by omega) h0 (by omega) (show (y 1).val / 128 = 2 by omega) (by omega) (by omega))
    case piece30 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 1 (128 + (x 1).val) (128 + ((x 1).val + 128 - 64) % 128) (by omega) (by omega) h0 (by omega) (show (y 1).val / 128 = 1 by omega) (by omega) (by omega))
    case piece31 =>
      open_payloads
      pointwise
      exact Eq.trans (by blk_point <;> (exfalso; omega)) (q_tile X1 (iblk m c 9 t) (iblk m c 6 t) (iblk m c 7 t) (iblk m c 2 t) (iblk m c 0 t (ix1 0)) (iblk m c 1 t (ix1 0)) (x 0) (y 0) (x 1) (y 1) 0 (0 + (x 1).val) (0 + ((x 1).val + 128 - 64) % 128) (by omega) (by omega) h0 (by omega) (show (y 1).val / 128 = 0 by omega) (by omega) (by omega))
  · unfold x1b
    beta_reduce
    refine Cert.Rope.qRow_congr (fun k => ?_) (fun k n => ?_) ?_ ?_ (fun e => ?_) (fun e => ?_) (fun h => ?_) ?_
    · blk_point [iblk, V, idx t]
    · blk_point [iblk, V, idx t]
    · blk_point [iblk, V, idx t]
    · blk_point [iblk, V, idx t]
    · blk_point [iblk, V, idx t]
    · blk_point [iblk, V, idx t]
    · blk_point [iblk, V, idx t]
    · refine Fin.ext ?_
      blk_simp [idx t]

end Cert.QkvIdeal.Value

end
-- ==== Proof.QkvK.lean ====
module

public import proofs.«01_k».proof.Proof.Gen.QkvIdeal.Frame
public import proofs.«01_k».proof.Proof.Gen.QkvRefIdeal.Skeleton
public import proofs.«01_k».proof.Proof.QkvNormed
public import proofs.«01_k».proof.Proof.Rope
public import Idealize.ShloMosaic.Lib.Pipeline.ValueKit
public import Idealize.ShloMosaic.Lib.Pointwise
public import Idealize.ShloMosaic.Lib.Claim

/-! What the query, key and value projection's kernel leaves in its third result array. -/

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen

variable (m : (ℓ : Loc nD τ sig) → Buf (Elt Ideal) ℓ)

/-- One tile's element is the row formula at its row and column. -/
theorem k_tile (X1 : S256x5120.Idx → EReal) (W : S5120x6144.Idx → EReal) (C S : S256x64.Idx → EReal) (SQ : (⟨1, ![8]⟩ : Shape).Idx → EReal) (s w : EReal)
    (i i' : Fin 256) (d : Fin 128) (q : Fin 1024) (g : Fin 8) (p p' : ℕ) (hp : p < 6144) (hp' : p' < 6144) (hi : i'.val = i.val)
    (hd : q.val % 128 = d.val) (hg : q.val / 128 = g.val) (e : p = 4096 + (q.val / 128 * 128 + d.val))
    (e' : p' = 4096 + (q.val / 128 * 128 + (d.val + 128 - 64) % 128)) :
    min (Ideal.ofBits FTy.f32 1138753536#32) (max (Ideal.ofBits FTy.f32 3286237184#32)
        (Ideal.div ((∑ k, X1 (ix2 i k) * W (ix2 k ⟨p, hp⟩)) * s * w * (if h : d.val < 64 then C (ix2 i ⟨d.val, h⟩) else C (ix2 i ⟨d.val - 64, by omega⟩))
          + (∑ k, X1 (ix2 i k) * W (ix2 k ⟨p', hp'⟩)) * s * w * (if h : d.val < 64 then 0 - S (ix2 i ⟨d.val, h⟩) else S (ix2 i ⟨d.val - 64, by omega⟩)))
          (SQ (ix1 g))))
      = Cert.Rope.kRow (fun k => X1 (ix2 i' k)) (fun k n => W (ix2 k n)) s w (fun e => C (ix2 i' e)) (fun e => S (ix2 i' e)) (fun h => SQ (ix1 h)) q := by
  obtain rfl : i' = i := Fin.ext hi
  obtain rfl : (⟨q.val / 128, Nat.div_lt_of_lt_mul q.isLt⟩ : Fin 8) = g := Fin.ext hg
  obtain rfl : (⟨q.val % 128, Nat.mod_lt _ (by decide)⟩ : Fin 128) = d := Fin.ext hd
  subst e e'
  exact Cert.Rope.headRoll_eq (fun d => (∑ k, X1 (ix2 i' k) * W (ix2 k ⟨4096 + (q.val / 128 * 128 + d.val), by omega⟩)) * s * w)
    (fun e => C (ix2 i' e)) (fun e => S (ix2 i' e)) (SQ (ix1 ⟨q.val / 128, by omega⟩)) ⟨q.val % 128, by omega⟩

set_option maxHeartbeats 4000000 in
/-- The third result array is the key codes, whole. -/
theorem final12 (c : Dev nD) : (dats m 0 c).arrAt 12 (cfgs 0).N
    = fun j => Cert.Rope.kRow (fun k => x1 m c (ix2 (j 0) k)) (fun k n => m ((c : Thread nD τ).loc main_arg5) (ix2 k n)) (m ((c : Thread nD τ).loc main_arg4) ValueIdx.ix0)
        (m ((c : Thread nD τ).loc main_arg6) (ix1 1)) (fun e => m ((c : Thread nD τ).loc main_arg1) (ix2 (j 0) e)) (fun e => m ((c : Thread nD τ).loc main_arg2) (ix2 (j 0) e)) (fun h => m ((c : Thread nD τ).loc main_arg8) (ix1 h)) (j 1) := by
  refine (dats m 0 c).arrAt_eq_of_covers 12 _ (by decide +kernel) fun t _ y => ?_
  blk_simp
  rw [after0_12]
  unfold outsAt0
  frame_out
  rw [x1_read]
  refine Eq.trans (b := Cert.Rope.kRow (fun k => x1b m c t (ix2 (y 0) k)) (fun k n => iblk m c 9 t (ix2 k n)) (iblk m c 0 t (ix1 0)) (iblk m c 1 t (ix1 1))
    (fun e => iblk m c 6 t (ix2 (y 0) e)) (fun e => iblk m c 7 t (ix2 (y 0) e)) (fun h => iblk m c 3 t (ix1 h)) (y 1)) ?_ ?_
  · generalize x1b m c t = X1
    canon_tiles x h
    case piece0 =>
      open_payloads
      pointwise
      exact Eq.trans (by blk_point <;> (exfalso; omega)) (k_tile X1 (iblk m c 9 t) (iblk m c 6 t) (iblk m c 7 t) (iblk m c 3 t) (iblk m c 0 t (ix1 0)) (iblk m c 1 t (ix1 1)) (x 0) (y 0) (x 1) (y 1) 7 (4992 + (x 1).val) (4992 + ((x 1).val + 128 - 64) % 128) (by omega) (by omega) h0 (by omega) (show (y 1).val / 128 = 7 by omega) (by omega) (by omega))
    case piece1 =>
      open_payloads
      pointwise
      exact Eq.trans (by blk_point <;> (exfalso; omega)) (k_tile X1 (iblk m c 9 t) (iblk m c 6 t) (iblk m c 7 t) (iblk m c 3 t) (iblk m c 0 t (ix1 0)) (iblk m c 1 t (ix1 1)) (x 0) (y 0) (x 1) (y 1) 6 (4864 + (x 1).val) (4864 + ((x 1).val + 128 - 64) % 128) (by omega) (by omega) h0 (by omega) (show (y 1).val / 128 = 6 by omega) (by omega) (by omega))
    case piece2 =>
      open_payloads
      pointwise
      exact Eq.trans (by blk_point <;> (exfalso; omega)) (k_tile X1 (iblk m c 9 t) (iblk m c 6 t) (iblk m c 7 t) (iblk m c 3 t) (iblk m c 0 t (ix1 0)) (iblk m c 1 t (ix1 1)) (x 0) (y 0) (x 1) (y 1) 5 (4736 + (x 1).val) (4736 + ((x 1).val + 128 - 64) % 128) (by omega) (by omega) h0 (by omega) (show (y 1).val / 128 = 5 by omega) (by omega) (by omega))
    case piece3 =>
      open_payloads
      pointwise
      exact Eq.trans (by blk_point <;> (exfalso; omega)) (k_tile X1 (iblk m c 9 t) (iblk m c 6 t) (iblk m c 7 t) (iblk m c 3 t) (iblk m c 0 t (ix1 0)) (iblk m c 1 t (ix1 1)) (x 0) (y 0) (x 1) (y 1) 4 (4608 + (x 1).val) (4608 + ((x 1).val + 128 - 64) % 128) (by omega) (by omega) h0 (by omega) (show (y 1).val / 128 = 4 by omega) (by omega) (by omega))
    case piece4 =>
      open_payloads
      pointwise
      exact Eq.trans (by blk_point <;> (exfalso; omega)) (k_tile X1 (iblk m c 9 t) (iblk m c 6 t) (iblk m c 7 t) (iblk m c 3 t) (iblk m c 0 t (ix1 0)) (iblk m c 1 t (ix1 1)) (x 0) (y 0) (x 1) (y 1) 3 (4480 + (x 1).val) (4480 + ((x 1).val + 128 - 64) % 128) (by omega) (by omega) h0 (by omega) (show (y 1).val / 128 = 3 by omega) (by omega) (by omega))
    case piece5 =>
      open_payloads
      pointwise
      exact Eq.trans (by blk_point <;> (exfalso; omega)) (k_tile X1 (iblk m c 9 t) (iblk m c 6 t) (iblk m c 7 t) (iblk m c 3 t) (iblk m c 0 t (ix1 0)) (iblk m c 1 t (ix1 1)) (x 0) (y 0) (x 1) (y 1) 2 (4352 + (x 1).val) (4352 + ((x 1).val + 128 - 64) % 128) (by omega) (by omega) h0 (by omega) (show (y 1).val / 128 = 2 by omega) (by omega) (by omega))
    case piece6 =>
      open_payloads
      pointwise
      exact Eq.trans (by blk_point <;> (exfalso; omega)) (k_tile X1 (iblk m c 9 t) (iblk m c 6 t) (iblk m c 7 t) (iblk m c 3 t) (iblk m c 0 t (ix1 0)) (iblk m c 1 t (ix1 1)) (x 0) (y 0) (x 1) (y 1) 1 (4224 + (x 1).val) (4224 + ((x 1).val + 128 - 64) % 128) (by omega) (by omega) h0 (by omega) (show (y 1).val / 128 = 1 by omega) (by omega) (by omega))
    case piece7 =>
      open_payloads
      pointwise
      exact Eq.trans (by blk_point <;> (exfalso; omega)) (k_tile X1 (iblk m c 9 t) (iblk m c 6 t) (iblk m c 7 t) (iblk m c 3 t) (iblk m c 0 t (ix1 0)) (iblk m c 1 t (ix1 1)) (x 0) (y 0) (x 1) (y 1) 0 (4096 + (x 1).val) (4096 + ((x 1).val + 128 - 64) % 128) (by omega) (by omega) h0 (by omega) (show (y 1).val / 128 = 0 by omega) (by omega) (by omega))
  · unfold x1b
    beta_reduce
    refine Cert.Rope.kRow_congr (fun k => ?_) (fun k n => ?_) ?_ ?_ (fun e => ?_) (fun e => ?_) (fun h => ?_) ?_
    · blk_point [iblk, V, idx t]
    · blk_point [iblk, V, idx t]
    · blk_point [iblk, V, idx t]
    · blk_point [iblk, V, idx t]
    · blk_point [iblk, V, idx t]
    · blk_point [iblk, V, idx t]
    · blk_point [iblk, V, idx t]
    · refine Fin.ext ?_
      blk_simp [idx t]

end Cert.QkvIdeal.Value

end
-- ==== Proof.QkvV.lean ====
module

public import proofs.«01_k».proof.Proof.Gen.QkvIdeal.Frame
public import proofs.«01_k».proof.Proof.Gen.QkvRefIdeal.Skeleton
public import proofs.«01_k».proof.Proof.QkvNormed
public import proofs.«01_k».proof.Proof.Rope
public import Idealize.ShloMosaic.Lib.Pipeline.ValueKit
public import Idealize.ShloMosaic.Lib.Pointwise
public import Idealize.ShloMosaic.Lib.Claim

/-! What the query, key and value projection's kernel leaves in its fourth result array. -/

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen

variable (m : (ℓ : Loc nD τ sig) → Buf (Elt Ideal) ℓ)

/-- One tile's element is the row formula at its row and column. -/
theorem v_tile (X1 : S256x5120.Idx → EReal) (W : S5120x6144.Idx → EReal) (SQ : S8.Idx → EReal) (s w : EReal)
    (i i' : Fin 256) (q : Fin 1024) (g : Fin 8) (p : ℕ) (hp : p < 6144) (hi : i'.val = i.val)
    (hg : q.val / 128 = g.val) (e : p = 5120 + q.val) :
    min (Ideal.ofBits FTy.f32 1138753536#32) (max (Ideal.ofBits FTy.f32 3286237184#32)
        (Ideal.div ((∑ k, X1 (ix2 i k) * W (ix2 k ⟨p, hp⟩)) * s * w) (SQ (ix1 g))))
      = Cert.Rope.vRow (fun k => X1 (ix2 i' k)) (fun k n => W (ix2 k n)) s w (fun h => SQ (ix1 h)) q := by
  obtain rfl : i' = i := Fin.ext hi
  obtain rfl : (⟨q.val / 128, Nat.div_lt_of_lt_mul q.isLt⟩ : Fin 8) = g := Fin.ext hg
  subst e
  rfl

set_option maxHeartbeats 4000000 in
/-- The fourth result array is the value codes, whole. -/
theorem final13 (c : Dev nD) : (dats m 0 c).arrAt 13 (cfgs 0).N
    = fun j => Cert.Rope.vRow (fun k => x1 m c (ix2 (j 0) k)) (fun k n => m ((c : Thread nD τ).loc main_arg5) (ix2 k n)) (m ((c : Thread nD τ).loc main_arg4) ValueIdx.ix0)
        (m ((c : Thread nD τ).loc main_arg6) (ix1 2)) (fun h => m ((c : Thread nD τ).loc main_arg9) (ix1 h)) (j 1) := by
  refine (dats m 0 c).arrAt_eq_of_covers 13 _ (by decide +kernel) fun t _ y => ?_
  blk_simp
  rw [after0_13]
  unfold outsAt0
  frame_out
  rw [x1_read]
  refine Eq.trans (b := Cert.Rope.vRow (fun k => x1b m c t (ix2 (y 0) k)) (fun k n => iblk m c 9 t (ix2 k n)) (iblk m c 0 t (ix1 0)) (iblk m c 1 t (ix1 2))
    (fun h => iblk m c 4 t (ix1 h)) (y 1)) ?_ ?_
  · generalize x1b m c t = X1
    canon_tiles x h
    case piece0 =>
      open_payloads
      pointwise
      exact Eq.trans (by blk_point <;> (exfalso; omega)) (v_tile X1 (iblk m c 9 t) (iblk m c 4 t) (iblk m c 0 t (ix1 0)) (iblk m c 1 t (ix1 2)) (x 0) (y 0) (y 1) 7 (6016 + (x 1).val) (by omega) h0 (show (y 1).val / 128 = 7 by omega) (by omega))
    case piece1 =>
      open_payloads
      pointwise
      exact Eq.trans (by blk_point <;> (exfalso; omega)) (v_tile X1 (iblk m c 9 t) (iblk m c 4 t) (iblk m c 0 t (ix1 0)) (iblk m c 1 t (ix1 2)) (x 0) (y 0) (y 1) 6 (5888 + (x 1).val) (by omega) h0 (show (y 1).val / 128 = 6 by omega) (by omega))
    case piece2 =>
      open_payloads
      pointwise
      exact Eq.trans (by blk_point <;> (exfalso; omega)) (v_tile X1 (iblk m c 9 t) (iblk m c 4 t) (iblk m c 0 t (ix1 0)) (iblk m c 1 t (ix1 2)) (x 0) (y 0) (y 1) 5 (5760 + (x 1).val) (by omega) h0 (show (y 1).val / 128 = 5 by omega) (by omega))
    case piece3 =>
      open_payloads
      pointwise
      exact Eq.trans (by blk_point <;> (exfalso; omega)) (v_tile X1 (iblk m c 9 t) (iblk m c 4 t) (iblk m c 0 t (ix1 0)) (iblk m c 1 t (ix1 2)) (x 0) (y 0) (y 1) 4 (5632 + (x 1).val) (by omega) h0 (show (y 1).val / 128 = 4 by omega) (by omega))
    case piece4 =>
      open_payloads
      pointwise
      exact Eq.trans (by blk_point <;> (exfalso; omega)) (v_tile X1 (iblk m c 9 t) (iblk m c 4 t) (iblk m c 0 t (ix1 0)) (iblk m c 1 t (ix1 2)) (x 0) (y 0) (y 1) 3 (5504 + (x 1).val) (by omega) h0 (show (y 1).val / 128 = 3 by omega) (by omega))
    case piece5 =>
      open_payloads
      pointwise
      exact Eq.trans (by blk_point <;> (exfalso; omega)) (v_tile X1 (iblk m c 9 t) (iblk m c 4 t) (iblk m c 0 t (ix1 0)) (iblk m c 1 t (ix1 2)) (x 0) (y 0) (y 1) 2 (5376 + (x 1).val) (by omega) h0 (show (y 1).val / 128 = 2 by omega) (by omega))
    case piece6 =>
      open_payloads
      pointwise
      exact Eq.trans (by blk_point <;> (exfalso; omega)) (v_tile X1 (iblk m c 9 t) (iblk m c 4 t) (iblk m c 0 t (ix1 0)) (iblk m c 1 t (ix1 2)) (x 0) (y 0) (y 1) 1 (5248 + (x 1).val) (by omega) h0 (show (y 1).val / 128 = 1 by omega) (by omega))
    case piece7 =>
      open_payloads
      pointwise
      exact Eq.trans (by blk_point <;> (exfalso; omega)) (v_tile X1 (iblk m c 9 t) (iblk m c 4 t) (iblk m c 0 t (ix1 0)) (iblk m c 1 t (ix1 2)) (x 0) (y 0) (y 1) 0 (5120 + (x 1).val) (by omega) h0 (show (y 1).val / 128 = 0 by omega) (by omega))
  · unfold x1b
    beta_reduce
    refine Cert.Rope.vRow_congr (fun k => ?_) (fun k n => ?_) ?_ ?_ (fun h => ?_) ?_
    · blk_point [iblk, V, idx t]
    · blk_point [iblk, V, idx t]
    · blk_point [iblk, V, idx t]
    · blk_point [iblk, V, idx t]
    · blk_point [iblk, V, idx t]
    · refine Fin.ext ?_
      blk_simp [idx t]

end Cert.QkvIdeal.Value

end
-- ==== Proof.QkvRef.lean ====
module

public import proofs.«01_k».proof.Proof.Gen.QkvRefIdeal.Frame
public import proofs.«01_k».proof.Proof.Norm
public import proofs.«01_k».proof.Proof.Rope
public import Idealize.ShloMosaic.Lib.Pipeline.ValueKit
public import Idealize.ShloMosaic.Lib.Pointwise
public import Idealize.ShloMosaic.Lib.Pipeline.ReadBack
public import Idealize.ShloMosaic.Lib.Claim

/-! What the query, key and value projection's reference leaves in its result arrays. -/

@[expose] public section

set_option maxRecDepth 16384

noncomputable section

open Idealize.ShloMosaic Idealize.ShloMosaic.TcCoe Idealize.SL.Sem
open Idealize.ShloMosaic.Pipeline (Dat)

namespace Cert.QkvRefIdeal.Value

open Cert.QkvRefIdeal Cert.QkvRefIdeal.Gen

variable (m : (ℓ : Loc nD τ sig) → Buf (Elt Ideal) ℓ)

/-- Every block is its whole array. -/
theorem idx : win0_0.index t0_0 = ![0] ∧ win0_1.index t0_0 = ![0] ∧ win0_2.index t0_0 = ![0, 0, 0] ∧ win0_3.index t0_0 = ![0, 0, 0] ∧ win0_4.index t0_0 = ![0, 0, 0]
    ∧ win0_5.index t0_0 = ![0, 0] ∧ win0_6.index t0_0 = ![0, 0] ∧ win0_7.index t0_0 = ![0, 0] ∧ win0_8.index t0_0 = ![0, 0] ∧ win0_9.index t0_0 = ![0, 0]
    ∧ win0_10.index t0_0 = ![0, 0] ∧ win0_11.index t0_0 = ![0, 0] ∧ win0_12.index t0_0 = ![0, 0] ∧ win0_13.index t0_0 = ![0, 0] := by decide +kernel

/-- The codes of the input at the arguments a device starts with. -/
def x1 (c : Dev nD) : FVec Ideal S4608x5120 .fp8e4m3 :=
  k0_pay3 (F := Ideal) (m ((c : Thread nD τ).loc main_arg0)) (shapeCast S1x5120 (m ((c : Thread nD τ).loc main_arg3)) shapeCasts_S5120_S1x5120)
    (m ((c : Thread nD τ).loc main_arg4) ValueIdx.ix0)

/-- The codes, one by one: at each element the code of its normalised row. -/
theorem pay3_eq (s : EReal) (X : FVec Ideal S4608x5120 .bf16) (L : FVec Ideal S1x5120 .f32) (j : S4608x5120.Idx) :
    k0_pay3 (F := Ideal) X L s j = Cert.Norm.code (fun k => X (ix2 (j 0) k)) (L (ix2 0 (j 1))) s (j 1) := by
  refine Eq.trans ?_ (Cert.Norm.codeDiv_eq _ _ _ _)
  unfold Cert.Norm.codeDiv Cert.Norm.meanSq
  pointwise [k0_pay3]

/-- The rotated, coded queries, one by one. -/
theorem q_eq (X : FVec Ideal S4608x5120 .bf16) (L : FVec Ideal S1x5120 .f32) (s : EReal) (W : FVec Ideal S5120x6144 .fp8e4m3) (a b : EReal)
    (C S : FVec Ideal S4608x64 .f32) (SQ : FVec Ideal S1x32x1 .f32) (j : S4608x4096.Idx) :
    k0_pay9 (F := Ideal) (k0_pay5 X L s W a b) C S SQ j
      = Cert.Rope.qRow (fun k => k0_pay3 (F := Ideal) X L s (ix2 (j 0) k)) (fun k n => W (ix2 k n)) a b (fun e => C (ix2 (j 0) e)) (fun e => S (ix2 (j 0) e))
          (fun h => SQ (ix3 0 h 0)) (j 1) := by
  unfold k0_pay5 k0_pay4
  generalize k0_pay3 (F := Ideal) X L s = X1
  pointwise [k0_pay9]
  unfold Cert.Rope.qRow Cert.Rope.head
  by_cases hx : (j 1).val % 128 < 64
  · simp only [hx, ↓reduceDIte]
    blk_point
  · simp only [hx, ↓reduceDIte]

/-- The rotated, coded keys, one by one. -/
theorem k_eq (X : FVec Ideal S4608x5120 .bf16) (L : FVec Ideal S1x5120 .f32) (s : EReal) (W : FVec Ideal S5120x6144 .fp8e4m3) (a b : EReal)
    (C S : FVec Ideal S4608x64 .f32) (SQ : FVec Ideal S1x8x1 .f32) (j : S4608x1024.Idx) :
    k0_pay1 (F := Ideal) (k0_pay7 (k0_pay6 X L s W a) b) C S (k0_pay10 (k0_pay6 X L s W a) b) SQ j
      = Cert.Rope.kRow (fun k => k0_pay3 (F := Ideal) X L s (ix2 (j 0) k)) (fun k n => W (ix2 k n)) a b (fun e => C (ix2 (j 0) e)) (fun e => S (ix2 (j 0) e))
          (fun h => SQ (ix3 0 h 0)) (j 1) := by
  unfold k0_pay6 k0_pay4
  generalize k0_pay3 (F := Ideal) X L s = X1
  pointwise [k0_pay1, k0_pay7, k0_pay10]
  unfold Cert.Rope.kRow Cert.Rope.head
  by_cases hx : (j 1).val % 128 < 64
  · simp only [hx, ↓reduceDIte]
    blk_point
  · simp only [hx, ↓reduceDIte]

/-- The coded values, one by one. -/
theorem v_eq (X : FVec Ideal S4608x5120 .bf16) (L : FVec Ideal S1x5120 .f32) (s : EReal) (W : FVec Ideal S5120x6144 .fp8e4m3) (a b : EReal)
    (SQ : FVec Ideal S1x8x1 .f32) (j : S4608x1024.Idx) :
    k0_pay2 (F := Ideal) (k0_pay8 (k0_pay4 X L s W) a b) SQ j
      = Cert.Rope.vRow (fun k => k0_pay3 (F := Ideal) X L s (ix2 (j 0) k)) (fun k n => W (ix2 k n)) a b (fun h => SQ (ix3 0 h 0)) (j 1) := by
  unfold k0_pay4
  generalize k0_pay3 (F := Ideal) X L s = X1
  pointwise [k0_pay2, k0_pay8]
  unfold Cert.Rope.vRow
  blk_point

/-- The reference's first result array is the codes of the normalised input. -/
theorem final10 (c : Dev nD) : (dats m 0 c).arrAt 10 (cfgs 0).N = x1 m c := by
  refine (dats m 0 c).arrAt_eq_of_after_last 10 t0_0 (by decide +kernel) _ fun j => ?_
  blk_simp
  rw [after0_10]
  unfold outsAt0
  frame_out
  simp only [read_unread_whole]
  unfold x1
  rw [pay3_eq, pay3_eq]
  refine Cert.Norm.code_congr (fun k => ?_) ?_ ?_ rfl
  · blk_point [iblk, V, idx]
  · blk_point [iblk, V, idx]
  · blk_point [iblk, V, idx]

/-- The reference's second result array is the query codes. -/
theorem final11 (c : Dev nD) : (dats m 0 c).arrAt 11 (cfgs 0).N
    = fun j => Cert.Rope.qRow (fun k => x1 m c (ix2 (j 0) k)) (fun k n => m ((c : Thread nD τ).loc main_arg5) (ix2 k n)) (m ((c : Thread nD τ).loc main_arg4) ValueIdx.ix0)
        (m ((c : Thread nD τ).loc main_arg6) (ix1 0)) (fun e => m ((c : Thread nD τ).loc main_arg1) (ix2 (j 0) e)) (fun e => m ((c : Thread nD τ).loc main_arg2) (ix2 (j 0) e)) (fun h => m ((c : Thread nD τ).loc main_arg7) (ix1 h)) (j 1) := by
  refine (dats m 0 c).arrAt_eq_of_after_last 11 t0_0 (by decide +kernel) _ fun j => ?_
  blk_simp
  rw [after0_11]
  unfold outsAt0
  frame_out
  simp only [read_unread_whole]
  rw [q_eq]
  refine Cert.Rope.qRow_congr (fun k => ?_) (fun k n => ?_) ?_ ?_ (fun e => ?_) (fun e => ?_) (fun h => ?_) ?_
  · unfold x1
    rw [pay3_eq, pay3_eq]
    refine Cert.Norm.code_congr (fun q => ?_) ?_ ?_ rfl
    · blk_point [iblk, V, idx]
    · blk_point [iblk, V, idx]
    · blk_point [iblk, V, idx]
  · blk_point [iblk, V, idx]
  · blk_point [iblk, V, idx]
  · blk_point [iblk, V, idx]
  · blk_point [iblk, V, idx]
  · blk_point [iblk, V, idx]
  · blk_point [iblk, V, idx]
  · rfl

/-- The reference's third result array is the key codes. -/
theorem final12 (c : Dev nD) : (dats m 0 c).arrAt 12 (cfgs 0).N
    = fun j => Cert.Rope.kRow (fun k => x1 m c (ix2 (j 0) k)) (fun k n => m ((c : Thread nD τ).loc main_arg5) (ix2 k n)) (m ((c : Thread nD τ).loc main_arg4) ValueIdx.ix0)
        (m ((c : Thread nD τ).loc main_arg6) (ix1 1)) (fun e => m ((c : Thread nD τ).loc main_arg1) (ix2 (j 0) e)) (fun e => m ((c : Thread nD τ).loc main_arg2) (ix2 (j 0) e)) (fun h => m ((c : Thread nD τ).loc main_arg8) (ix1 h)) (j 1) := by
  refine (dats m 0 c).arrAt_eq_of_after_last 12 t0_0 (by decide +kernel) _ fun j => ?_
  blk_simp
  rw [after0_12]
  unfold outsAt0
  frame_out
  simp only [read_unread_whole]
  rw [k_eq]
  refine Cert.Rope.kRow_congr (fun k => ?_) (fun k n => ?_) ?_ ?_ (fun e => ?_) (fun e => ?_) (fun h => ?_) ?_
  · unfold x1
    rw [pay3_eq, pay3_eq]
    refine Cert.Norm.code_congr (fun q => ?_) ?_ ?_ rfl
    · blk_point [iblk, V, idx]
    · blk_point [iblk, V, idx]
    · blk_point [iblk, V, idx]
  · blk_point [iblk, V, idx]
  · blk_point [iblk, V, idx]
  · blk_point [iblk, V, idx]
  · blk_point [iblk, V, idx]
  · blk_point [iblk, V, idx]
  · blk_point [iblk, V, idx]
  · rfl

/-- The reference's fourth result array is the value codes. -/
theorem final13 (c : Dev nD) : (dats m 0 c).arrAt 13 (cfgs 0).N
    = fun j => Cert.Rope.vRow (fun k => x1 m c (ix2 (j 0) k)) (fun k n => m ((c : Thread nD τ).loc main_arg5) (ix2 k n)) (m ((c : Thread nD τ).loc main_arg4) ValueIdx.ix0)
        (m ((c : Thread nD τ).loc main_arg6) (ix1 2)) (fun h => m ((c : Thread nD τ).loc main_arg9) (ix1 h)) (j 1) := by
  refine (dats m 0 c).arrAt_eq_of_after_last 13 t0_0 (by decide +kernel) _ fun j => ?_
  blk_simp
  rw [after0_13]
  unfold outsAt0
  frame_out
  simp only [read_unread_whole]
  rw [v_eq]
  refine Cert.Rope.vRow_congr (fun k => ?_) (fun k n => ?_) ?_ ?_ (fun h => ?_) ?_
  · unfold x1
    rw [pay3_eq, pay3_eq]
    refine Cert.Norm.code_congr (fun q => ?_) ?_ ?_ rfl
    · blk_point [iblk, V, idx]
    · blk_point [iblk, V, idx]
    · blk_point [iblk, V, idx]
  · blk_point [iblk, V, idx]
  · blk_point [iblk, V, idx]
  · blk_point [iblk, V, idx]
  · blk_point [iblk, V, idx]
  · rfl

end Cert.QkvRefIdeal.Value

end
-- ==== Proof.QkvEq.lean ====
module

public import proofs.«01_k».proof.Defs
public import proofs.«01_k».proof.Proof.QkvNormed
public import proofs.«01_k».proof.Proof.QkvQ
public import proofs.«01_k».proof.Proof.QkvK
public import proofs.«01_k».proof.Proof.QkvV
public import proofs.«01_k».proof.Proof.QkvRef

/-! The query, key and value projection: kernel and reference leave the same arrays. -/

@[expose] public section

set_option maxRecDepth 16384

noncomputable section

open Idealize.ShloMosaic Idealize.ShloMosaic.TcCoe Idealize.SL.Sem

namespace Cert.QkvEq

set_option maxHeartbeats 1000000 in
/-- Over the extended reals, from arguments that agree, the kernel and the reference of the query, key and value projection both run to the end
    and leave equal result arrays and their arguments unchanged. -/
theorem algebraic : Cert.algebraic_QkvIdeal_QkvRefIdeal := by
  pair_intro
  · run_from Cert.QkvIdeal.Gen.run_main m g
  · run_from Cert.QkvRefIdeal.Gen.run_main m' g'
    · obtain ⟨h0, h1, h2, h3, h4, h5, h6, h7, h8, h9⟩ := hagree c
      refine (Cert.QkvRefIdeal.Value.final10 m' c).trans (Eq.trans ?_ (Cert.QkvIdeal.Value.final10 m c).symm)
      have hx : Cert.QkvRefIdeal.Value.x1 m' c = Cert.QkvIdeal.Value.x1 m c := by
        unfold Cert.QkvRefIdeal.Value.x1 Cert.QkvIdeal.Value.x1
        rw [h0, h3, h4]
        first | done | rfl
      exact hx
    · obtain ⟨h0, h1, h2, h3, h4, h5, h6, h7, h8, h9⟩ := hagree c
      refine (Cert.QkvRefIdeal.Value.final11 m' c).trans (Eq.trans ?_ (Cert.QkvIdeal.Value.final11 m c).symm)
      have hx : Cert.QkvRefIdeal.Value.x1 m' c = Cert.QkvIdeal.Value.x1 m c := by
        unfold Cert.QkvRefIdeal.Value.x1 Cert.QkvIdeal.Value.x1
        rw [h0, h3, h4]
        first | done | rfl
      rw [hx, h4, h5, h6, h1, h2, h7]
      first | done | rfl
    · obtain ⟨h0, h1, h2, h3, h4, h5, h6, h7, h8, h9⟩ := hagree c
      refine (Cert.QkvRefIdeal.Value.final12 m' c).trans (Eq.trans ?_ (Cert.QkvIdeal.Value.final12 m c).symm)
      have hx : Cert.QkvRefIdeal.Value.x1 m' c = Cert.QkvIdeal.Value.x1 m c := by
        unfold Cert.QkvRefIdeal.Value.x1 Cert.QkvIdeal.Value.x1
        rw [h0, h3, h4]
        first | done | rfl
      rw [hx, h4, h5, h6, h1, h2, h8]
      first | done | rfl
    · obtain ⟨h0, h1, h2, h3, h4, h5, h6, h7, h8, h9⟩ := hagree c
      refine (Cert.QkvRefIdeal.Value.final13 m' c).trans (Eq.trans ?_ (Cert.QkvIdeal.Value.final13 m c).symm)
      have hx : Cert.QkvRefIdeal.Value.x1 m' c = Cert.QkvIdeal.Value.x1 m c := by
        unfold Cert.QkvRefIdeal.Value.x1 Cert.QkvIdeal.Value.x1
        rw [h0, h3, h4]
        first | done | rfl
      rw [hx, h4, h5, h6, h9]
      first | done | rfl

end Cert.QkvEq

end
-- ==== Proof.lean ====
/- Every claim of the certificate, each from the module that proves it. -/
module

public import proofs.«01_k».proof.Defs
public import proofs.«01_k».proof.Proof.Gen.Down.Frame
public import proofs.«01_k».proof.Proof.Gen.DownIdeal.Frame
public import proofs.«01_k».proof.Proof.Gen.DownRefIdeal.Frame
public import proofs.«01_k».proof.Proof.Gen.GateUp.Frame
public import proofs.«01_k».proof.Proof.Gen.GateUpIdeal.Frame
public import proofs.«01_k».proof.Proof.Gen.GateUpRefIdeal.Frame
public import proofs.«01_k».proof.Proof.Gen.OProj.Frame
public import proofs.«01_k».proof.Proof.Gen.OProjIdeal.Frame
public import proofs.«01_k».proof.Proof.Gen.OProjRefIdeal.Frame
public import proofs.«01_k».proof.Proof.Gen.Qkv.Frame
public import proofs.«01_k».proof.Proof.Gen.QkvIdeal.Frame
public import proofs.«01_k».proof.Proof.Gen.QkvRefIdeal.Frame
public import proofs.«01_k».proof.Proof.DownEq
public import proofs.«01_k».proof.Proof.GateUpEq
public import proofs.«01_k».proof.Proof.OProjEq
public import proofs.«01_k».proof.Proof.QkvEq

@[expose] public section

noncomputable section

namespace Cert.Proof

/-- All the claims: every program runs to the end and leaves its arguments unchanged; every idealized program is the
    compiled one; and each kernel leaves the arrays its reference leaves. -/
theorem claim : Cert.Claim := ⟨Cert.Down.Gen.facts, Cert.DownIdeal.Gen.facts, Cert.DownRefIdeal.Gen.facts, Cert.GateUp.Gen.facts, Cert.GateUpIdeal.Gen.facts, Cert.GateUpRefIdeal.Gen.facts, Cert.OProj.Gen.facts, Cert.OProjIdeal.Gen.facts, Cert.OProjRefIdeal.Gen.facts, Cert.Qkv.Gen.facts, Cert.QkvIdeal.Gen.facts, Cert.QkvRefIdeal.Gen.facts,
  fun m ρ _ => Cert.Down.Gen.frame m ρ,
  fun m ρ _ => Cert.DownIdeal.Gen.frame m ρ,
  fun m ρ _ => Cert.DownRefIdeal.Gen.frame m ρ,
  fun m ρ _ => Cert.GateUp.Gen.frame m ρ,
  fun m ρ _ => Cert.GateUpIdeal.Gen.frame m ρ,
  fun m ρ _ => Cert.GateUpRefIdeal.Gen.frame m ρ,
  fun m ρ _ => Cert.OProj.Gen.frame m ρ,
  fun m ρ _ => Cert.OProjIdeal.Gen.frame m ρ,
  fun m ρ _ => Cert.OProjRefIdeal.Gen.frame m ρ,
  fun m ρ _ => Cert.Qkv.Gen.frame m ρ,
  fun m ρ _ => Cert.QkvIdeal.Gen.frame m ρ,
  fun m ρ _ => Cert.QkvRefIdeal.Gen.frame m ρ,
  trivial,
  Cert.DownEq.algebraic,
  trivial,
  Cert.GateUpEq.algebraic,
  trivial,
  Cert.OProjEq.algebraic,
  trivial,
  Cert.QkvEq.algebraic⟩

end Cert.Proof

end
